-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v230) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  IdealRules.named_const.Statement Cert.Kernel11Ideal.κ "inv_ln2" .f32 0x3FB8AA3B#32 (((Real.log 2)⁻¹ : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v257) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v255) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Kernel.lean ====
abbrev S8192x4096 : Shape := ⟨2, ![8192, 4096]⟩
abbrev S4x4096x24576 : Shape := ⟨3, ![4, 4096, 24576]⟩
abbrev S1x4096x24576 : Shape := ⟨3, ![1, 4096, 24576]⟩
abbrev S8192x24576 : Shape := ⟨2, ![8192, 24576]⟩
abbrev S1024x4096 : Shape := ⟨2, ![1024, 4096]⟩
abbrev S1x4096x1024 : Shape := ⟨3, ![1, 4096, 1024]⟩
abbrev S1x4096x128 : Shape := ⟨3, ![1, 4096, 128]⟩
abbrev S1024x1024 : Shape := ⟨2, ![1024, 1024]⟩
abbrev S4096x1024 : Shape := ⟨2, ![4096, 1024]⟩
abbrev S4096x128 : Shape := ⟨2, ![4096, 128]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4x4096x24576, .f32⟩
  | .hbm, ⟨2, _⟩ => ⟨S1x4096x24576, .f32⟩
  | .hbm, ⟨3, _⟩ => ⟨S1x4096x24576, .bf16⟩
  | .hbm, ⟨4, _⟩ => ⟨S8192x24576, .f32⟩
  | .hbm, ⟨5, _⟩ => ⟨S1x4096x24576, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x4096x128, .f32⟩
  | .local _ .vmem, ⟨5, _⟩ => ⟨S1x4096x128, .f32⟩
  | .local _ .vmem, ⟨6, _⟩ => ⟨S1024x1024, .f32⟩
  | .local _ .vmem, ⟨7, _⟩ => ⟨S1024x1024, .f32⟩
  | .local _ .vmem, ⟨8, _⟩ => ⟨S1x4096x128, .bf16⟩
  | .local _ .vmem, ⟨9, _⟩ => ⟨S1x4096x128, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c1_i32 : BitVec 32 := 1#32
  let c0_i32 : BitVec 32 := 0#32
  let c0_i32_0 : BitVec 32 := 0#32
  ![c1_i32.toNat, c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8192x4096 : Shape := ⟨2, ![8192, 4096]⟩
abbrev S4x4096x24576 : Shape := ⟨3, ![4, 4096, 24576]⟩
abbrev S1x4096x24576 : Shape := ⟨3, ![1, 4096, 24576]⟩
abbrev S4096x24576 : Shape := ⟨2, ![4096, 24576]⟩
abbrev S8192x24576 : Shape := ⟨2, ![8192, 24576]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x24576, .f32⟩
  | .hbm, ⟨2, _⟩ => ⟨S8192x4096, .f32⟩
  | .hbm, ⟨3, _⟩ => ⟨S1x4096x24576, .f32⟩
  | .hbm, ⟨4, _⟩ => ⟨S4096x24576, .f32⟩
  | .hbm, ⟨5, _⟩ => ⟨S8192x24576, .f32⟩
  | .hbm, ⟨6, _⟩ => ⟨S1x4096x24576, .f32⟩
  | .hbm, ⟨7, _⟩ => ⟨S1x4096x24576, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel2.lean ====
abbrev S8192x2048 : Shape := ⟨2, ![8192, 2048]⟩
abbrev S4x2048x4096 : Shape := ⟨3, ![4, 2048, 4096]⟩
abbrev S8192x24576 : Shape := ⟨2, ![8192, 24576]⟩
abbrev S8192x4096 : Shape := ⟨2, ![8192, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x4096, .f32⟩
  | .hbm, ⟨3, _⟩ => ⟨S4x2048x4096, .f32⟩
  | .hbm, ⟨4, _⟩ => ⟨S8192x24576, .f32⟩
  | .hbm, ⟨5, _⟩ => ⟨S4x2048x4096, .bf16⟩
  | .hbm, ⟨6, _⟩ => ⟨S4x2048x4096, .bf16⟩
  | .hbm, ⟨7, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8192x2048 : Shape := ⟨2, ![8192, 2048]⟩
abbrev S4x2048x4096 : Shape := ⟨3, ![4, 2048, 4096]⟩
abbrev S8192x24576 : Shape := ⟨2, ![8192, 24576]⟩
abbrev S8192x4096 : Shape := ⟨2, ![8192, 4096]⟩
abbrev S1x2048x4096 : Shape := ⟨3, ![1, 2048, 4096]⟩
abbrev S2048x4096 : Shape := ⟨2, ![2048, 4096]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x4096, .f32⟩
  | .hbm, ⟨3, _⟩ => ⟨S4x2048x4096, .f32⟩
  | .hbm, ⟨4, _⟩ => ⟨S8192x24576, .f32⟩
  | .hbm, ⟨5, _⟩ => ⟨S8192x4096, .f32⟩
  | .hbm, ⟨6, _⟩ => ⟨S8192x4096, .f32⟩
  | .hbm, ⟨7, _⟩ => ⟨S8192x2048, .f32⟩
  | .hbm, ⟨8, _⟩ => ⟨S1x2048x4096, .f32⟩
  | .hbm, ⟨9, _⟩ => ⟨S2048x4096, .f32⟩
  | .hbm, ⟨10, _⟩ => ⟨S8192x4096, .f32⟩
  | .hbm, ⟨11, _⟩ => ⟨S8192x2048, .f32⟩
  | .hbm, ⟨12, _⟩ => ⟨S1x2048x4096, .f32⟩
  | .hbm, ⟨13, _⟩ => ⟨S2048x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel3.lean ====
abbrev S8192x4096 : Shape := ⟨2, ![8192, 4096]⟩
abbrev S4x4096x4096 : Shape := ⟨3, ![4, 4096, 4096]⟩
abbrev S8x1x12288 : Shape := ⟨3, ![8, 1, 12288]⟩
abbrev S16384x4096 : Shape := ⟨2, ![16384, 4096]⟩
abbrev S1024x4096 : Shape := ⟨2, ![1024, 4096]⟩
abbrev S1x4096x1024 : Shape := ⟨3, ![1, 4096, 1024]⟩
abbrev S1024x1024 : Shape := ⟨2, ![1024, 1024]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S4x4096x4096, .f32⟩
  | .hbm, ⟨3, _⟩ => ⟨S8x1x12288, .f32⟩
  | .hbm, ⟨4, _⟩ => ⟨S4x4096x4096, .bf16⟩
  | .hbm, ⟨5, _⟩ => ⟨S16384x4096, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c8_i32 : BitVec 32 := 8#32
  let v18 : BitVec 32 := Scalar.addi c8_i32 arg1
  let c0_i32_5 : BitVec 32 := 0#32
  let c0_i32_6 : BitVec 32 := 0#32
  ![v17.toNat, c0_i32_5.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8192x4096 : Shape := ⟨2, ![8192, 4096]⟩
abbrev S4x4096x4096 : Shape := ⟨3, ![4, 4096, 4096]⟩
abbrev S8x1x12288 : Shape := ⟨3, ![8, 1, 12288]⟩
abbrev S2x1x4096 : Shape := ⟨3, ![2, 1, 4096]⟩
abbrev S2x4096 : Shape := ⟨2, ![2, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S4x4096x4096, .f32⟩
  | .hbm, ⟨3, _⟩ => ⟨S8x1x12288, .f32⟩
  | .hbm, ⟨4, _⟩ => ⟨S2x1x4096, .f32⟩
  | .hbm, ⟨5, _⟩ => ⟨S2x4096, .f32⟩
  | .hbm, ⟨6, _⟩ => ⟨S2x4096x4096, .bf16⟩
  | .hbm, ⟨7, _⟩ => ⟨S2x4096x4096, .f32⟩
  | .hbm, ⟨8, _⟩ => ⟨S1x4096x4096, .f32⟩
  | .hbm, ⟨9, _⟩ => ⟨S4096x4096, .f32⟩
  | .hbm, ⟨10, _⟩ => ⟨S2x4096x4096, .f32⟩
  | .hbm, ⟨11, _⟩ => ⟨S2x4096x4096, .f32⟩
  | .hbm, ⟨12, _⟩ => ⟨S2x1x4096, .f32⟩
  | .hbm, ⟨13, _⟩ => ⟨S2x4096x4096, .f32⟩
  | .hbm, ⟨14, _⟩ => ⟨S2x4096x4096, .f32⟩
  | .hbm, ⟨15, _⟩ => ⟨S2x4096x4096, .f32⟩
  | .hbm, ⟨16, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel4.lean ====
abbrev S2x4096x2048 : Shape := ⟨3, ![2, 4096, 2048]⟩
abbrev S2x4096x24576 : Shape := ⟨3, ![2, 4096, 24576]⟩
abbrev S2048 : Shape := ⟨1, ![2048]⟩
abbrev S1x2048 : Shape := ⟨2, ![1, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2x4096x24576, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S2x4096x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x2048, .f32⟩
  | .local _ .vmem, ⟨5, _⟩ => ⟨S1x2048, .f32⟩
  | .local _ .vmem, ⟨6, _⟩ => ⟨S1x256x2048, .bf16⟩
  | .local _ .vmem, ⟨7, _⟩ => ⟨S1x256x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S2x4096x2048 : Shape := ⟨3, ![2, 4096, 2048]⟩
abbrev S2x4096x24576 : Shape := ⟨3, ![2, 4096, 24576]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x24576, .f32⟩
  | .hbm, ⟨2, _⟩ => ⟨S2048, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S_, .f32⟩
  | .hbm, ⟨15, _⟩ => ⟨S2x4096, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S2x4096x2048, .f32⟩
  | .hbm, ⟨25, _⟩ => ⟨S2x4096x2048, .f32⟩
  | .hbm, ⟨26, _⟩ => ⟨S1x1x2048, .f32⟩
  | .hbm, ⟨27, _⟩ => ⟨S2x4096x2048, .f32⟩
  | .hbm, ⟨28, _⟩ => ⟨S2x4096x2048, .f32⟩
  | .hbm, ⟨29, _⟩ => ⟨S1x1x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S_, .f32⟩
  | .hbm, ⟨35, _⟩ => ⟨S2x4096x2048, .f32⟩
  | .hbm, ⟨36, _⟩ => ⟨S2x4096x2048, .f32⟩
  | .hbm, ⟨37, _⟩ => ⟨S_, .f32⟩
  | .hbm, ⟨38, _⟩ => ⟨S2x4096x2048, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S2x4096x2048, .f32⟩
  | .hbm, ⟨43, _⟩ => ⟨S_, .f32⟩
  | .hbm, ⟨44, _⟩ => ⟨S2x4096x2048, .f32⟩
  | .hbm, ⟨45, _⟩ => ⟨S2x4096x2048, .f32⟩
  | .hbm, ⟨46, _⟩ => ⟨S_, .f32⟩
  | .hbm, ⟨47, _⟩ => ⟨S2x4096x2048, .f32⟩
  | .hbm, ⟨48, _⟩ => ⟨S2x4096x2048, .f32⟩
  | .hbm, ⟨49, _⟩ => ⟨S2x4096x2048, .f32⟩
  | .hbm, ⟨50, _⟩ => ⟨S2x4096x2048, .f32⟩
  | .hbm, ⟨51, _⟩ => ⟨S2x4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩

abbrev nD : Nat := 1
abbrev τ : Topo := Topo.v7x

variable {F : FTy → Type} [FloatOps F]
-- ==== Kernel5.lean ====
abbrev S2x4096x24576 : Shape := ⟨3, ![2, 4096, 24576]⟩
abbrev S31x2048 : Shape := ⟨2, ![31, 2048]⟩
abbrev S2048 : Shape := ⟨1, ![2048]⟩
abbrev S1x2048 : Shape := ⟨2, ![1, 2048]⟩
abbrev S2x4096x2048 : Shape := ⟨3, ![2, 4096, 2048]⟩
abbrev S1x4096x256 : Shape := ⟨3, ![1, 4096, 256]⟩
abbrev S31x256 : Shape := ⟨2, ![31, 256]⟩
abbrev S1x256 : Shape := ⟨2, ![1, 256]⟩
abbrev S6016x256 : Shape := ⟨2, ![6016, 256]⟩
abbrev S960x256 : Shape := ⟨2, ![960, 256]⟩
abbrev S4096x256 : Shape := ⟨2, ![4096, 256]⟩
abbrev S64x128 : Shape := ⟨2, ![64, 128]⟩
abbrev S1x128 : Shape := ⟨2, ![1, 128]⟩
abbrev S1x64x128 : Shape := ⟨3, ![1, 64, 128]⟩

abbrev nBuf : Space → Nat
  | .hbm => 5
  | .vmem => 11
  | .smem => 0
  | _ => 0

abbrev bufTy : (tb : Table) → Fin (tcTables nBuf tb) → BufTy
  | .hbm, ⟨0, _⟩ => ⟨S2x4096x24576, .f32⟩
  | .hbm, ⟨1, _⟩ => ⟨S31x2048, .f32⟩
  | .hbm, ⟨2, _⟩ => ⟨S2048, .f32⟩
  | .hbm, ⟨3, _⟩ => ⟨S1x2048, .f32⟩
  | .hbm, ⟨4, _⟩ => ⟨S2x4096x2048, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S31x256, .f32⟩
  | .local _ .vmem, ⟨5, _⟩ => ⟨S31x256, .f32⟩
  | .local _ .vmem, ⟨6, _⟩ => ⟨S1x256, .f32⟩
  | .local _ .vmem, ⟨7, _⟩ => ⟨S1x256, .f32⟩
  | .local _ .vmem, ⟨8, _⟩ => ⟨S1x4096x256, .f32⟩
  | .local _ .vmem, ⟨9, _⟩ => ⟨S1x4096x256, .f32⟩
  | .local _ .vmem, ⟨10, _⟩ => ⟨S6016x256, .f32⟩
  | _, _ => ⟨S2x4096x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c64_i32 : BitVec 32 := 64#32
  let v23 : BitVec 32 := Scalar.addi c0_i32 c64_i32
  let c1_i32 : BitVec 32 := 1#32
  ⟨c0_i32, v23, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32_14 : BitVec 32 := 64#32
  let v24 : BitVec 32 := Scalar.muli arg8 c64_i32_14
  v24
def k0_off1 (k0_t1 : Fin k0_t1_loop.trips) (c0_i32_18 : BitVec 32) : Fin 2 → Nat :=
  let c0_i32 : BitVec 32 := 0#32
  let c1_i32 : BitVec 32 := 1#32
  let arg8 : BitVec 32 := Scf.iv c0_i32 c1_i32 k0_t1
  let c64_i32_14 : BitVec 32 := 64#32
  let v24 : BitVec 32 := Scalar.muli arg8 c64_i32_14
  let v25 : BitVec 32 := v24
  let v31 : BitVec 32 := Scalar.addi v25 c0_i32_18
  let v32 : Index := Scalar.indexCast v31
  let c0_19 : Index := 0#32
  ![v32.toNat, 0]
def k0_off2 (k0_t1 : Fin k0_t1_loop.trips) : Fin 3 → Nat :=
  let c0_83 : Index := 0#32
  let c0_i32 : BitVec 32 := 0#32
  let c1_i32 : BitVec 32 := 1#32
  let arg8 : BitVec 32 := Scf.iv c0_i32 c1_i32 k0_t1
  let c64_i32_14 : BitVec 32 := 64#32
  let v24 : BitVec 32 := Scalar.muli arg8 c64_i32_14
  let v25 : BitVec 32 := v24
  let v248 : Index := Scalar.indexCast v25
  let c0_84 : Index := 0#32
  ![0, v248.toNat, 0]
def k0_off3 (k0_t1 : Fin k0_t1_loop.trips) (c0_i32_87 : BitVec 32) : Fin 2 → Nat :=
  let c0_i32 : BitVec 32 := 0#32
  let c1_i32 : BitVec 32 := 1#32
  let arg8 : BitVec 32 := Scf.iv c0_i32 c1_i32 k0_t1
  let c64_i32_14 : BitVec 32 := 64#32
  let v24 : BitVec 32 := Scalar.muli arg8 c64_i32_14
  let v25 : BitVec 32 := v24
  let v257 : BitVec 32 := Scalar.addi v25 c0_i32_87
  let v258 : Index := Scalar.indexCast v257
  let c128_88 : Index := 128#32
  ![v258.toNat, 128]
def k0_off4 (k0_t1 : Fin k0_t1_loop.trips) : Fin 3 → Nat :=
  let c0_211 : Index := 0#32
  let c0_i32 : BitVec 32 := 0#32
  let c1_i32 : BitVec 32 := 1#32
  let arg8 : BitVec 32 := Scf.iv c0_i32 c1_i32 k0_t1
  let c64_i32_14 : BitVec 32 := 64#32
  let v24 : BitVec 32 := Scalar.muli arg8 c64_i32_14
  let v25 : BitVec 32 := v24
  let v474 : Index := Scalar.indexCast v25
  let c128_212 : Index := 128#32
  ![0, v474.toNat, 128]
def cc0_transform_0 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S31x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S2x4096x24576 : Shape := ⟨3, ![2, 4096, 24576]⟩
abbrev S31x2048 : Shape := ⟨2, ![31, 2048]⟩
abbrev S2048 : Shape := ⟨1, ![2048]⟩
abbrev S2x4096x2048 : Shape := ⟨3, ![2, 4096, 2048]⟩
abbrev S_ : Shape := ⟨0, ![]⟩
abbrev S2x64x64x2048 : Shape := ⟨4, ![2, 64, 64, 2048]⟩
abbrev S2x94x64x2048 : Shape := ⟨4, ![2, 94, 64, 2048]⟩
abbrev S1x2048 : Shape := ⟨2, ![1, 2048]⟩
abbrev S1x1x1x2048 : Shape := ⟨4, ![1, 1, 1, 2048]⟩

abbrev nBuf : Space → Nat
  | .hbm => 238
  | .vmem => 0
  | .smem => 0
  | _ => 0

abbrev hbmTy0_0 (i : Nat) : BufTy := match i % 128 with
  | 0 => ⟨S2x4096x24576, .f32⟩
  | 1 => ⟨S31x2048, .f32⟩
  | 2 => ⟨S2048, .f32⟩
  | 3 => ⟨S2x4096x2048, .f32⟩
  | 4 => ⟨S2x4096x2048, .f32⟩
  | 5 => ⟨S2x4096x2048, .f32⟩
  | 6 => ⟨S2x4096x2048, .f32⟩
  | 7 => ⟨S_, .f32⟩
  | 8 => ⟨S2x4096x2048, .f32⟩
  | 9 => ⟨S2x4096x2048, .f32⟩
  | 10 => ⟨S_, .f32⟩
  | 11 => ⟨S2x4096x2048, .f32⟩
  | 12 => ⟨S2x4096x2048, .f32⟩
  | 13 => ⟨S2x4096x2048, .f32⟩
  | 14 => ⟨S2x64x64x2048, .f32⟩
  | 15 => ⟨S_, .i32⟩
  | 16 => ⟨S_, .f32⟩
  | 17 => ⟨S2x94x64x2048, .f32⟩
  | 18 => ⟨S2x64x64x2048, .f32⟩
  | 19 => ⟨S1x2048, .f32⟩
  | 20 => ⟨S2048, .f32⟩
  | 21 => ⟨S1x1x1x2048, .f32⟩
  | 22 => ⟨S2x64x64x2048, .f32⟩
  | 23 => ⟨S2x64x64x2048, .f32⟩
  | 24 => ⟨S2x64x64x2048, .f32⟩
  | 25 => ⟨S1x2048, .f32⟩
  | 26 => ⟨S2048, .f32⟩
  | 27 => ⟨S1x1x1x2048, .f32⟩
  | 28 => ⟨S2x64x64x2048, .f32⟩
  | 29 => ⟨S2x64x64x2048, .f32⟩
  | 30 => ⟨S2x64x64x2048, .f32⟩
  | 31 => ⟨S2x64x64x2048, .f32⟩
  | 32 => ⟨S1x2048, .f32⟩
  | 33 => ⟨S2048, .f32⟩
  | 34 => ⟨S1x1x1x2048, .f32⟩
  | 35 => ⟨S2x64x64x2048, .f32⟩
  | 36 => ⟨S2x64x64x2048, .f32⟩
  | 37 => ⟨S2x64x64x2048, .f32⟩
  | 38 => ⟨S2x64x64x2048, .f32⟩
  | 39 => ⟨S1x2048, .f32⟩
  | 40 => ⟨S2048, .f32⟩
  | 41 => ⟨S1x1x1x2048, .f32⟩
  | 42 => ⟨S2x64x64x2048, .f32⟩
  | 43 => ⟨S2x64x64x2048, .f32⟩
  | 44 => ⟨S2x64x64x2048, .f32⟩
  | 45 => ⟨S2x64x64x2048, .f32⟩
  | 46 => ⟨S1x2048, .f32⟩
  | 47 => ⟨S2048, .f32⟩
  | 48 => ⟨S1x1x1x2048, .f32⟩
  | 49 => ⟨S2x64x64x2048, .f32⟩
  | 50 => ⟨S2x64x64x2048, .f32⟩
  | 51 => ⟨S2x64x64x2048, .f32⟩
  | 52 => ⟨S2x64x64x2048, .f32⟩
  | 53 => ⟨S1x2048, .f32⟩
  | 54 => ⟨S2048, .f32⟩
  | 55 => ⟨S1x1x1x2048, .f32⟩
  | 56 => ⟨S2x64x64x2048, .f32⟩
  | 57 => ⟨S2x64x64x2048, .f32⟩
  | 58 => ⟨S2x64x64x2048, .f32⟩
  | 59 => ⟨S2x64x64x2048, .f32⟩
  | 60 => ⟨S1x2048, .f32⟩
  | 61 => ⟨S2048, .f32⟩
  | 62 => ⟨S1x1x1x2048, .f32⟩
  | 63 => ⟨S2x64x64x2048, .f32⟩
  | 64 => ⟨S2x64x64x2048, .f32⟩
  | 65 => ⟨S2x64x64x2048, .f32⟩
  | 66 => ⟨S2x64x64x2048, .f32⟩
  | 67 => ⟨S1x2048, .f32⟩
  | 68 => ⟨S2048, .f32⟩
  | 69 => ⟨S1x1x1x2048, .f32⟩
  | 70 => ⟨S2x64x64x2048, .f32⟩
  | 71 => ⟨S2x64x64x2048, .f32⟩
  | 72 => ⟨S2x64x64x2048, .f32⟩
  | 73 => ⟨S2x64x64x2048, .f32⟩
  | 74 => ⟨S1x2048, .f32⟩
  | 75 => ⟨S2048, .f32⟩
  | 76 => ⟨S1x1x1x2048, .f32⟩
  | 77 => ⟨S2x64x64x2048, .f32⟩
  | 78 => ⟨S2x64x64x2048, .f32⟩
  | 79 => ⟨S2x64x64x2048, .f32⟩
  | 80 => ⟨S2x64x64x2048, .f32⟩
  | 81 => ⟨S1x2048, .f32⟩
  | 82 => ⟨S2048, .f32⟩
  | 83 => ⟨S1x1x1x2048, .f32⟩
  | 84 => ⟨S2x64x64x2048, .f32⟩
  | 85 => ⟨S2x64x64x2048, .f32⟩
  | 86 => ⟨S2x64x64x2048, .f32⟩
  | 87 => ⟨S2x64x64x2048, .f32⟩
  | 88 => ⟨S1x2048, .f32⟩
  | 89 => ⟨S2048, .f32⟩
  | 90 => ⟨S1x1x1x2048, .f32⟩
  | 91 => ⟨S2x64x64x2048, .f32⟩
  | 92 => ⟨S2x64x64x2048, .f32⟩
  | 93 => ⟨S2x64x64x2048, .f32⟩
  | 94 => ⟨S2x64x64x2048, .f32⟩
  | 95 => ⟨S1x2048, .f32⟩
  | 96 => ⟨S2048, .f32⟩
  | 97 => ⟨S1x1x1x2048, .f32⟩
  | 98 => ⟨S2x64x64x2048, .f32⟩
  | 99 => ⟨S2x64x64x2048, .f32⟩
  | 100 => ⟨S2x64x64x2048, .f32⟩
  | 101 => ⟨S2x64x64x2048, .f32⟩
  | 102 => ⟨S1x2048, .f32⟩
  | 103 => ⟨S2048, .f32⟩
  | 104 => ⟨S1x1x1x2048, .f32⟩
  | 105 => ⟨S2x64x64x2048, .f32⟩
  | 106 => ⟨S2x64x64x2048, .f32⟩
  | 107 => ⟨S2x64x64x2048, .f32⟩
  | 108 => ⟨S2x64x64x2048, .f32⟩
  | 109 => ⟨S1x2048, .f32⟩
  | 110 => ⟨S2048, .f32⟩
  | 111 => ⟨S1x1x1x2048, .f32⟩
  | 112 => ⟨S2x64x64x2048, .f32⟩
  | 113 => ⟨S2x64x64x2048, .f32⟩
  | 114 => ⟨S2x64x64x2048, .f32⟩
  | 115 => ⟨S2x64x64x2048, .f32⟩
  | 116 => ⟨S1x2048, .f32⟩
  | 117 => ⟨S2048, .f32⟩
  | 118 => ⟨S1x1x1x2048, .f32⟩
  | 119 => ⟨S2x64x64x2048, .f32⟩
  | 120 => ⟨S2x64x64x2048, .f32⟩
  | 121 => ⟨S2x64x64x2048, .f32⟩
  | 122 => ⟨S2x64x64x2048, .f32⟩
  | 123 => ⟨S1x2048, .f32⟩
  | 124 => ⟨S2048, .f32⟩
  | 125 => ⟨S1x1x1x2048, .f32⟩
  | 126 => ⟨S2x64x64x2048, .f32⟩
  | 127 => ⟨S2x64x64x2048, .f32⟩
  | _ => ⟨S2x4096x24576, .f32⟩

abbrev hbmTy0_1 (i : Nat) : BufTy := match i % 128 with
  | 0 => ⟨S2x64x64x2048, .f32⟩
  | 1 => ⟨S2x64x64x2048, .f32⟩
  | 2 => ⟨S1x2048, .f32⟩
  | 3 => ⟨S2048, .f32⟩
  | 4 => ⟨S1x1x1x2048, .f32⟩
  | 5 => ⟨S2x64x64x2048, .f32⟩
  | 6 => ⟨S2x64x64x2048, .f32⟩
  | 7 => ⟨S2x64x64x2048, .f32⟩
  | 8 => ⟨S2x64x64x2048, .f32⟩
  | 9 => ⟨S1x2048, .f32⟩
  | 10 => ⟨S2048, .f32⟩
  | 11 => ⟨S1x1x1x2048, .f32⟩
  | 12 => ⟨S2x64x64x2048, .f32⟩
  | 13 => ⟨S2x64x64x2048, .f32⟩
  | 14 => ⟨S2x64x64x2048, .f32⟩
  | 15 => ⟨S2x64x64x2048, .f32⟩
  | 16 => ⟨S1x2048, .f32⟩
  | 17 => ⟨S2048, .f32⟩
  | 18 => ⟨S1x1x1x2048, .f32⟩
  | 19 => ⟨S2x64x64x2048, .f32⟩
  | 20 => ⟨S2x64x64x2048, .f32⟩
  | 21 => ⟨S2x64x64x2048, .f32⟩
  | 22 => ⟨S2x64x64x2048, .f32⟩
  | 23 => ⟨S1x2048, .f32⟩
  | 24 => ⟨S2048, .f32⟩
  | 25 => ⟨S1x1x1x2048, .f32⟩
  | 26 => ⟨S2x64x64x2048, .f32⟩
  | 27 => ⟨S2x64x64x2048, .f32⟩
  | 28 => ⟨S2x64x64x2048, .f32⟩
  | 29 => ⟨S2x64x64x2048, .f32⟩
  | 30 => ⟨S1x2048, .f32⟩
  | 31 => ⟨S2048, .f32⟩
  | 32 => ⟨S1x1x1x2048, .f32⟩
  | 33 => ⟨S2x64x64x2048, .f32⟩
  | 34 => ⟨S2x64x64x2048, .f32⟩
  | 35 => ⟨S2x64x64x2048, .f32⟩
  | 36 => ⟨S2x64x64x2048, .f32⟩
  | 37 => ⟨S1x2048, .f32⟩
  | 38 => ⟨S2048, .f32⟩
  | 39 => ⟨S1x1x1x2048, .f32⟩
  | 40 => ⟨S2x64x64x2048, .f32⟩
  | 41 => ⟨S2x64x64x2048, .f32⟩
  | 42 => ⟨S2x64x64x2048, .f32⟩
  | 43 => ⟨S2x64x64x2048, .f32⟩
  | 44 => ⟨S1x2048, .f32⟩
  | 45 => ⟨S2048, .f32⟩
  | 46 => ⟨S1x1x1x2048, .f32⟩
  | 47 => ⟨S2x64x64x2048, .f32⟩
  | 48 => ⟨S2x64x64x2048, .f32⟩
  | 49 => ⟨S2x64x64x2048, .f32⟩
  | 50 => ⟨S2x64x64x2048, .f32⟩
  | 51 => ⟨S1x2048, .f32⟩
  | 52 => ⟨S2048, .f32⟩
  | 53 => ⟨S1x1x1x2048, .f32⟩
  | 54 => ⟨S2x64x64x2048, .f32⟩
  | 55 => ⟨S2x64x64x2048, .f32⟩
  | 56 => ⟨S2x64x64x2048, .f32⟩
  | 57 => ⟨S2x64x64x2048, .f32⟩
  | 58 => ⟨S1x2048, .f32⟩
  | 59 => ⟨S2048, .f32⟩
  | 60 => ⟨S1x1x1x2048, .f32⟩
  | 61 => ⟨S2x64x64x2048, .f32⟩
  | 62 => ⟨S2x64x64x2048, .f32⟩
  | 63 => ⟨S2x64x64x2048, .f32⟩
  | 64 => ⟨S2x64x64x2048, .f32⟩
  | 65 => ⟨S1x2048, .f32⟩
  | 66 => ⟨S2048, .f32⟩
  | 67 => ⟨S1x1x1x2048, .f32⟩
  | 68 => ⟨S2x64x64x2048, .f32⟩
  | 69 => ⟨S2x64x64x2048, .f32⟩
  | 70 => ⟨S2x64x64x2048, .f32⟩
  | 71 => ⟨S2x64x64x2048, .f32⟩
  | 72 => ⟨S1x2048, .f32⟩
  | 73 => ⟨S2048, .f32⟩
  | 74 => ⟨S1x1x1x2048, .f32⟩
  | 75 => ⟨S2x64x64x2048, .f32⟩
  | 76 => ⟨S2x64x64x2048, .f32⟩
  | 77 => ⟨S2x64x64x2048, .f32⟩
  | 78 => ⟨S2x64x64x2048, .f32⟩
  | 79 => ⟨S1x2048, .f32⟩
  | 80 => ⟨S2048, .f32⟩
  | 81 => ⟨S1x1x1x2048, .f32⟩
  | 82 => ⟨S2x64x64x2048, .f32⟩
  | 83 => ⟨S2x64x64x2048, .f32⟩
  | 84 => ⟨S2x64x64x2048, .f32⟩
  | 85 => ⟨S2x64x64x2048, .f32⟩
  | 86 => ⟨S1x2048, .f32⟩
  | 87 => ⟨S2048, .f32⟩
  | 88 => ⟨S1x1x1x2048, .f32⟩
  | 89 => ⟨S2x64x64x2048, .f32⟩
  | 90 => ⟨S2x64x64x2048, .f32⟩
  | 91 => ⟨S2x64x64x2048, .f32⟩
  | 92 => ⟨S2x64x64x2048, .f32⟩
  | 93 => ⟨S1x2048, .f32⟩
  | 94 => ⟨S2048, .f32⟩
  | 95 => ⟨S1x1x1x2048, .f32⟩
  | 96 => ⟨S2x64x64x2048, .f32⟩
  | 97 => ⟨S2x64x64x2048, .f32⟩
  | 98 => ⟨S2x64x64x2048, .f32⟩
  | 99 => ⟨S2x64x64x2048, .f32⟩
  | 100 => ⟨S1x2048, .f32⟩
  | 101 => ⟨S2048, .f32⟩
  | 102 => ⟨S1x1x1x2048, .f32⟩
  | 103 => ⟨S2x64x64x2048, .f32⟩
  | 104 => ⟨S2x64x64x2048, .f32⟩
  | 105 => ⟨S2x64x64x2048, .f32⟩
  | 106 => ⟨S1x1x1x2048, .f32⟩
  | 107 => ⟨S2x64x64x2048, .f32⟩
  | 108 => ⟨S2x64x64x2048, .f32⟩
  | 109 => ⟨S2x4096x2048, .f32⟩
  | _ => ⟨S2x4096x24576, .f32⟩

abbrev hbmTy (i : Nat) : BufTy := match i / 128 with
  | 0 => hbmTy0_0 i
  | 1 => hbmTy0_1 i
  | _ => ⟨S2x4096x24576, .f32⟩

abbrev bufTy : (tb : Table) → Fin (tcTables nBuf tb) → BufTy
  | .hbm, ⟨i, _⟩ => hbmTy i
  | _, _ => ⟨S2x4096x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩

abbrev nD : Nat := 1
abbrev τ : Topo := Topo.v7x

variable {F : FTy → Type} [FloatOps F]
-- ==== Kernel6.lean ====
abbrev S2x4096x2048 : Shape := ⟨3, ![2, 4096, 2048]⟩
abbrev S2x4096x24576 : Shape := ⟨3, ![2, 4096, 24576]⟩
abbrev S128 : Shape := ⟨1, ![128]⟩
abbrev S1x128 : Shape := ⟨2, ![1, 128]⟩
abbrev S1x256x2048 : Shape := ⟨3, ![1, 256, 2048]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x4096x24576, .f32⟩
  | .hbm, ⟨3, _⟩ => ⟨S128, .f32⟩
  | .hbm, ⟨4, _⟩ => ⟨S1x128, .f32⟩
  | .hbm, ⟨5, _⟩ => ⟨S2x4096x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x128, .f32⟩
  | .local _ .vmem, ⟨7, _⟩ => ⟨S1x256x2048, .bf16⟩
  | .local _ .vmem, ⟨8, _⟩ => ⟨S1x256x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S2x4096x2048 : Shape := ⟨3, ![2, 4096, 2048]⟩
abbrev S2x4096x24576 : Shape := ⟨3, ![2, 4096, 24576]⟩
abbrev S128 : Shape := ⟨1, ![128]⟩
abbrev S2x4096x16x128 : Shape := ⟨4, ![2, 4096, 16, 128]⟩
abbrev S_ : Shape := ⟨0, ![]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x4096x24576, .f32⟩
  | .hbm, ⟨3, _⟩ => ⟨S128, .f32⟩
  | .hbm, ⟨4, _⟩ => ⟨S2x4096x2048, .f32⟩
  | .hbm, ⟨5, _⟩ => ⟨S2x4096x2048, .f32⟩
  | .hbm, ⟨6, _⟩ => ⟨S2x4096x16x128, .f32⟩
  | .hbm, ⟨7, _⟩ => ⟨S2x4096x16x128, .f32⟩
  | .hbm, ⟨8, _⟩ => ⟨S_, .f32⟩
  | .hbm, ⟨9, _⟩ => ⟨S2x4096x16, .f32⟩
  | .hbm, ⟨10, _⟩ => ⟨S2x4096x16x1, .f32⟩
  | .hbm, ⟨11, _⟩ => ⟨S_, .f32⟩
  | .hbm, ⟨12, _⟩ => ⟨S2x4096x16x1, .f32⟩
  | .hbm, ⟨13, _⟩ => ⟨S2x4096x16x1, .f32⟩
  | .hbm, ⟨14, _⟩ => ⟨S_, .f32⟩
  | .hbm, ⟨15, _⟩ => ⟨S2x4096x16x1, .f32⟩
  | .hbm, ⟨16, _⟩ => ⟨S2x4096x16x1, .f32⟩
  | .hbm, ⟨17, _⟩ => ⟨S2x4096x16x1, .f32⟩
  | .hbm, ⟨18, _⟩ => ⟨S2x4096x16x128, .f32⟩
  | .hbm, ⟨19, _⟩ => ⟨S2x4096x16x128, .f32⟩
  | .hbm, ⟨20, _⟩ => ⟨S1x1x1x128, .f32⟩
  | .hbm, ⟨21, _⟩ => ⟨S2x4096x16x128, .f32⟩
  | .hbm, ⟨22, _⟩ => ⟨S2x4096x16x128, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S_, .f32⟩
  | .hbm, ⟨27, _⟩ => ⟨S2x4096x2048, .f32⟩
  | .hbm, ⟨28, _⟩ => ⟨S2x4096x2048, .f32⟩
  | .hbm, ⟨29, _⟩ => ⟨S_, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S2x4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel7.lean ====
abbrev S4x4096x4096 : Shape := ⟨3, ![4, 4096, 4096]⟩
abbrev S4096 : Shape := ⟨1, ![4096]⟩
abbrev S8x1x12288 : Shape := ⟨3, ![8, 1, 12288]⟩
abbrev S1x4096 : Shape := ⟨2, ![1, 4096]⟩
abbrev S2x4096x4096 : Shape := ⟨3, ![2, 4096, 4096]⟩
abbrev S1x256x4096 : Shape := ⟨3, ![1, 256, 4096]⟩
abbrev S1x1x12288 : Shape := ⟨3, ![1, 1, 12288]⟩
abbrev S256x4096 : Shape := ⟨2, ![256, 4096]⟩
abbrev S256 : Shape := ⟨1, ![256]⟩
abbrev S256x1 : Shape := ⟨2, ![256, 1]⟩
abbrev S1x1x4096 : Shape := ⟨3, ![1, 1, 4096]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S8x1x12288, .f32⟩
  | .hbm, ⟨3, _⟩ => ⟨S1x4096, .f32⟩
  | .hbm, ⟨4, _⟩ => ⟨S2x4096x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x12288, .f32⟩
  | .local _ .vmem, ⟨4, _⟩ => ⟨S1x1x12288, .f32⟩
  | .local _ .vmem, ⟨5, _⟩ => ⟨S1x256x4096, .bf16⟩
  | .local _ .vmem, ⟨6, _⟩ => ⟨S1x256x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4x4096x4096 : Shape := ⟨3, ![4, 4096, 4096]⟩
abbrev S4096 : Shape := ⟨1, ![4096]⟩
abbrev S8x1x12288 : Shape := ⟨3, ![8, 1, 12288]⟩
abbrev S2x1x12288 : Shape := ⟨3, ![2, 1, 12288]⟩
abbrev S2x12288 : Shape := ⟨2, ![2, 12288]⟩
abbrev S2x4096 : Shape := ⟨2, ![2, 4096]⟩
abbrev S2x4096x4096 : Shape := ⟨3, ![2, 4096, 4096]⟩
abbrev S_ : Shape := ⟨0, ![]⟩
abbrev S2x4096x1 : Shape := ⟨3, ![2, 4096, 1]⟩
abbrev S1x1x4096 : Shape := ⟨3, ![1, 1, 4096]⟩
abbrev S2x1x4096 : Shape := ⟨3, ![2, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S8x1x12288, .f32⟩
  | .hbm, ⟨3, _⟩ => ⟨S2x1x12288, .f32⟩
  | .hbm, ⟨4, _⟩ => ⟨S2x12288, .f32⟩
  | .hbm, ⟨5, _⟩ => ⟨S2x4096, .f32⟩
  | .hbm, ⟨6, _⟩ => ⟨S2x4096, .f32⟩
  | .hbm, ⟨7, _⟩ => ⟨S2x4096, .f32⟩
  | .hbm, ⟨8, _⟩ => ⟨S2x4096x4096, .f32⟩
  | .hbm, ⟨9, _⟩ => ⟨S2x4096x4096, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x4096, .f32⟩
  | .hbm, ⟨21, _⟩ => ⟨S2x4096x4096, .f32⟩
  | .hbm, ⟨22, _⟩ => ⟨S1x1x4096, .f32⟩
  | .hbm, ⟨23, _⟩ => ⟨S2x4096x4096, .f32⟩
  | .hbm, ⟨24, _⟩ => ⟨S2x4096x4096, .f32⟩
  | .hbm, ⟨25, _⟩ => ⟨S2x1x4096, .f32⟩
  | .hbm, ⟨26, _⟩ => ⟨S_, .f32⟩
  | .hbm, ⟨27, _⟩ => ⟨S2x1x4096, .f32⟩
  | .hbm, ⟨28, _⟩ => ⟨S2x1x4096, .f32⟩
  | .hbm, ⟨29, _⟩ => ⟨S2x4096x4096, .f32⟩
  | .hbm, ⟨30, _⟩ => ⟨S2x4096x4096, .f32⟩
  | .hbm, ⟨31, _⟩ => ⟨S2x1x4096, .f32⟩
  | .hbm, ⟨32, _⟩ => ⟨S2x4096x4096, .f32⟩
  | .hbm, ⟨33, _⟩ => ⟨S2x4096x4096, .f32⟩
  | .hbm, ⟨34, _⟩ => ⟨S2x4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel8.lean ====
abbrev S8x4096 : Shape := ⟨2, ![8, 4096]⟩
abbrev S4x4096x12288 : Shape := ⟨3, ![4, 4096, 12288]⟩
abbrev S4x12288 : Shape := ⟨2, ![4, 12288]⟩
abbrev S4x1x12288 : Shape := ⟨3, ![4, 1, 12288]⟩
abbrev S4x8x12288 : Shape := ⟨3, ![4, 8, 12288]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S4x4096x12288, .f32⟩
  | .hbm, ⟨2, _⟩ => ⟨S4x12288, .f32⟩
  | .hbm, ⟨3, _⟩ => ⟨S4x1x12288, .f32⟩
  | .hbm, ⟨4, _⟩ => ⟨S4x8x12288, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x4096 : Shape := ⟨2, ![8, 4096]⟩
abbrev S4x4096x12288 : Shape := ⟨3, ![4, 4096, 12288]⟩
abbrev S4x12288 : Shape := ⟨2, ![4, 12288]⟩
abbrev S_ : Shape := ⟨0, ![]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4x4096x12288, .f32⟩
  | .hbm, ⟨2, _⟩ => ⟨S4x12288, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S4x12288x8, .f32⟩
  | .hbm, ⟨13, _⟩ => ⟨S4x8x12288, .f32⟩
  | .hbm, ⟨14, _⟩ => ⟨S4x1x12288, .f32⟩
  | .hbm, ⟨15, _⟩ => ⟨S4x8x12288, .f32⟩
  | .hbm, ⟨16, _⟩ => ⟨S4x8x12288, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel9.lean ====
abbrev S16x256x4096 : Shape := ⟨3, ![16, 256, 4096]⟩
abbrev S4096 : Shape := ⟨1, ![4096]⟩
abbrev S1x4096 : Shape := ⟨2, ![1, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16x256x4096, .f32⟩
  | .hbm, ⟨1, _⟩ => ⟨S4096, .f32⟩
  | .hbm, ⟨2, _⟩ => ⟨S1x4096, .f32⟩
  | .hbm, ⟨3, _⟩ => ⟨S16x256x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x256x4096, .f32⟩
  | .local _ .vmem, ⟨4, _⟩ => ⟨S1x256x4096, .f32⟩
  | _, _ => ⟨S16x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S16x256x4096 : Shape := ⟨3, ![16, 256, 4096]⟩
abbrev S4096 : Shape := ⟨1, ![4096]⟩
abbrev S_ : Shape := ⟨0, ![]⟩
abbrev S16x256 : Shape := ⟨2, ![16, 256]⟩
abbrev S16x256x1 : Shape := ⟨3, ![16, 256, 1]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16x256x4096, .f32⟩
  | .hbm, ⟨1, _⟩ => ⟨S4096, .f32⟩
  | .hbm, ⟨2, _⟩ => ⟨S16x256x4096, .f32⟩
  | .hbm, ⟨3, _⟩ => ⟨S_, .f32⟩
  | .hbm, ⟨4, _⟩ => ⟨S16x256, .f32⟩
  | .hbm, ⟨5, _⟩ => ⟨S16x256x1, .f32⟩
  | .hbm, ⟨6, _⟩ => ⟨S_, .f32⟩
  | .hbm, ⟨7, _⟩ => ⟨S16x256x1, .f32⟩
  | .hbm, ⟨8, _⟩ => ⟨S16x256x1, .f32⟩
  | .hbm, ⟨9, _⟩ => ⟨S_, .f32⟩
  | .hbm, ⟨10, _⟩ => ⟨S16x256x1, .f32⟩
  | .hbm, ⟨11, _⟩ => ⟨S16x256x1, .f32⟩
  | .hbm, ⟨12, _⟩ => ⟨S16x256x1, .f32⟩
  | .hbm, ⟨13, _⟩ => ⟨S16x256x4096, .f32⟩
  | .hbm, ⟨14, _⟩ => ⟨S16x256x4096, .f32⟩
  | .hbm, ⟨15, _⟩ => ⟨S1x1x4096, .f32⟩
  | .hbm, ⟨16, _⟩ => ⟨S16x256x4096, .f32⟩
  | .hbm, ⟨17, _⟩ => ⟨S16x256x4096, .f32⟩
  | _, _ => ⟨S16x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel10.lean ====
abbrev S2x4096x4096 : Shape := ⟨3, ![2, 4096, 4096]⟩
abbrev S4096 : Shape := ⟨1, ![4096]⟩
abbrev S1x4096 : Shape := ⟨2, ![1, 4096]⟩
abbrev S4x4096x4096 : Shape := ⟨3, ![4, 4096, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S1x4096, .f32⟩
  | .hbm, ⟨4, _⟩ => ⟨S4x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x4096, .f32⟩
  | .local _ .vmem, ⟨5, _⟩ => ⟨S1x256x4096, .f32⟩
  | .local _ .vmem, ⟨6, _⟩ => ⟨S1x256x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c2_i32 : BitVec 32 := 2#32
  let v1 : BitVec 1 := Scalar.cmpi .slt arg0 c2_i32
  let c15_i32 : BitVec 32 := 15#32
  let v2 : BitVec 32 := Scalar.select v1 arg1 c15_i32
  let c0_i32 : BitVec 32 := 0#32
  let c0_i32_0 : BitVec 32 := 0#32
  ![v0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c2_i32_0 : BitVec 32 := 2#32
  let v2 : BitVec 1 := Scalar.cmpi .sge arg0 c2_i32_0
  let c0_i32_1 : BitVec 32 := 0#32
  let v3 : BitVec 32 := Scalar.select v2 arg1 c0_i32_1
  let c0_i32_2 : BitVec 32 := 0#32
  let c0_i32_3 : BitVec 32 := 0#32
  ![v1.toNat, v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S2x4096x4096 : Shape := ⟨3, ![2, 4096, 4096]⟩
abbrev S4096 : Shape := ⟨1, ![4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S4x4096x4096, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S1x1x4096, .f32⟩
  | .hbm, ⟨18, _⟩ => ⟨S4x4096x4096, .f32⟩
  | .hbm, ⟨19, _⟩ => ⟨S4x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel11.lean ====
abbrev S4x2x2048 : Shape := ⟨3, ![4, 2, 2048]⟩
abbrev S4x4096 : Shape := ⟨2, ![4, 4096]⟩
abbrev S2x4x4096 : Shape := ⟨3, ![2, 4, 4096]⟩
abbrev S4096 : Shape := ⟨1, ![4096]⟩
abbrev S1x4096 : Shape := ⟨2, ![1, 4096]⟩
abbrev S1x1x4096 : Shape := ⟨3, ![1, 1, 4096]⟩

abbrev nBuf : Space → Nat
  | .hbm => 3
  | .vmem => 2
  | .smem => 0
  | _ => 0

abbrev bufTy : (tb : Table) → Fin (tcTables nBuf tb) → BufTy
  | .hbm, ⟨0, _⟩ => ⟨S4x2x2048, .f32⟩
  | .hbm, ⟨1, _⟩ => ⟨S4x4096, .f32⟩
  | .hbm, ⟨2, _⟩ => ⟨S2x4x4096, .f32⟩
  | .local _ .vmem, ⟨0, _⟩ => ⟨S4x4096, .f32⟩
  | .local _ .vmem, ⟨1, _⟩ => ⟨S2x4x4096, .f32⟩
  | _, _ => ⟨S4x2x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Kernel11Ideal.lean ====
variable {F : FTy → Type} [FloatOps F] [Named F]
def κ : String → Option EReal := fun
  | "inv_ln2" => some (((Real.log 2)⁻¹ : ℝ) : EReal)
  | _ => none
-- ==== Reference11Ideal.lean ====
abbrev S4x2x2048 : Shape := ⟨3, ![4, 2, 2048]⟩
abbrev S_ : Shape := ⟨0, ![]⟩
abbrev S2x2048 : Shape := ⟨2, ![2, 2048]⟩
abbrev S1x2x2048 : Shape := ⟨3, ![1, 2, 2048]⟩
abbrev S4x4096 : Shape := ⟨2, ![4, 4096]⟩
abbrev S1x4x4096 : Shape := ⟨3, ![1, 4, 4096]⟩
abbrev S2x4x4096 : Shape := ⟨3, ![2, 4, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x2x2048, .f32⟩
  | .hbm, ⟨1, _⟩ => ⟨S_, .f32⟩
  | .hbm, ⟨2, _⟩ => ⟨S2x2048, .f32⟩
  | .hbm, ⟨3, _⟩ => ⟨S_, .f32⟩
  | .hbm, ⟨4, _⟩ => ⟨S2x2048, .f32⟩
  | .hbm, ⟨5, _⟩ => ⟨S2x2048, .f32⟩
  | .hbm, ⟨6, _⟩ => ⟨S1x2x2048, .f32⟩
  | .hbm, ⟨7, _⟩ => ⟨S4x2x2048, .f32⟩
  | .hbm, ⟨8, _⟩ => ⟨S4x2x2048, .f32⟩
  | .hbm, ⟨9, _⟩ => ⟨S4x2x2048, .f32⟩
  | .hbm, ⟨10, _⟩ => ⟨S_, .f32⟩
  | .hbm, ⟨11, _⟩ => ⟨S2x2048, .f32⟩
  | .hbm, ⟨12, _⟩ => ⟨S1x2x2048, .f32⟩
  | .hbm, ⟨13, _⟩ => ⟨S4x2x2048, .f32⟩
  | .hbm, ⟨14, _⟩ => ⟨S4x2x2048, .f32⟩
  | .hbm, ⟨15, _⟩ => ⟨S_, .f32⟩
  | .hbm, ⟨16, _⟩ => ⟨S_, .f32⟩
  | .hbm, ⟨17, _⟩ => ⟨S4x2x2048, .f32⟩
  | .hbm, ⟨18, _⟩ => ⟨S1x2x2048, .f32⟩
  | .hbm, ⟨19, _⟩ => ⟨S4x2x2048, .f32⟩
  | .hbm, ⟨20, _⟩ => ⟨S4x2x2048, .f32⟩
  | .hbm, ⟨21, _⟩ => ⟨S4x4096, .f32⟩
  | .hbm, ⟨22, _⟩ => ⟨S4x4096, .f32⟩
  | .hbm, ⟨23, _⟩ => ⟨S_, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S1x4x4096, .f32⟩
  | .hbm, ⟨31, _⟩ => ⟨S1x4x4096, .f32⟩
  | .hbm, ⟨32, _⟩ => ⟨S2x4x4096, .f32⟩
  | _, _ => ⟨S4x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel12.lean ====
abbrev S2x4096x24576 : Shape := ⟨3, ![2, 4096, 24576]⟩
abbrev S31x2048 : Shape := ⟨2, ![31, 2048]⟩
abbrev S2048 : Shape := ⟨1, ![2048]⟩
abbrev S1x2048 : Shape := ⟨2, ![1, 2048]⟩
abbrev S2x4096x2048 : Shape := ⟨3, ![2, 4096, 2048]⟩
abbrev S1x256x2048 : Shape := ⟨3, ![1, 256, 2048]⟩
abbrev S384x2048 : Shape := ⟨2, ![384, 2048]⟩
abbrev S256x2048 : Shape := ⟨2, ![256, 2048]⟩
abbrev S16x2048 : Shape := ⟨2, ![16, 2048]⟩
abbrev S64x2048 : Shape := ⟨2, ![64, 2048]⟩
abbrev S64x128 : Shape := ⟨2, ![64, 128]⟩
abbrev S1x128 : Shape := ⟨2, ![1, 128]⟩
abbrev S96x128 : Shape := ⟨2, ![96, 128]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S2x4096x24576, .f32⟩
  | .hbm, ⟨1, _⟩ => ⟨S31x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S2x4096x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S31x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x256x2048, .bf16⟩
  | .local _ .vmem, ⟨11, _⟩ => ⟨S1x256x2048, .bf16⟩
  | .local _ .vmem, ⟨12, _⟩ => ⟨S384x2048, .f32⟩
  | .local _ .vmem, ⟨13, _⟩ => ⟨S256x2048, .f32⟩
  | _, _ => ⟨S2x4096x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S31x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference12Ideal.lean ====
abbrev S2x4096x24576 : Shape := ⟨3, ![2, 4096, 24576]⟩
abbrev S31x2048 : Shape := ⟨2, ![31, 2048]⟩
abbrev S2048 : Shape := ⟨1, ![2048]⟩
abbrev S2x4096x2048 : Shape := ⟨3, ![2, 4096, 2048]⟩
abbrev S_ : Shape := ⟨0, ![]⟩
abbrev S128x64x2048 : Shape := ⟨3, ![128, 64, 2048]⟩
abbrev S128x94x2048 : Shape := ⟨3, ![128, 94, 2048]⟩
abbrev S1x2048 : Shape := ⟨2, ![1, 2048]⟩
abbrev S1x1x2048 : Shape := ⟨3, ![1, 1, 2048]⟩
abbrev S2x4096 : Shape := ⟨2, ![2, 4096]⟩
abbrev S2x4096x1 : Shape := ⟨3, ![2, 4096, 1]⟩

abbrev nBuf : Space → Nat
  | .hbm => 288
  | .vmem => 0
  | .smem => 0
  | _ => 0

abbrev hbmTy0_0 (i : Nat) : BufTy := match i % 128 with
  | 0 => ⟨S2x4096x24576, .f32⟩
  | 1 => ⟨S31x2048, .f32⟩
  | 2 => ⟨S2048, .f32⟩
  | 3 => ⟨S2048, .f32⟩
  | 4 => ⟨S2048, .f32⟩
  | 5 => ⟨S2x4096x2048, .f32⟩
  | 6 => ⟨S2x4096x2048, .f32⟩
  | 7 => ⟨S2x4096x2048, .f32⟩
  | 8 => ⟨S2x4096x2048, .f32⟩
  | 9 => ⟨S_, .f32⟩
  | 10 => ⟨S2x4096x2048, .f32⟩
  | 11 => ⟨S2x4096x2048, .f32⟩
  | 12 => ⟨S_, .f32⟩
  | 13 => ⟨S2x4096x2048, .f32⟩
  | 14 => ⟨S2x4096x2048, .f32⟩
  | 15 => ⟨S2x4096x2048, .f32⟩
  | 16 => ⟨S128x64x2048, .f32⟩
  | 17 => ⟨S_, .i32⟩
  | 18 => ⟨S_, .f32⟩
  | 19 => ⟨S128x94x2048, .f32⟩
  | 20 => ⟨S128x64x2048, .f32⟩
  | 21 => ⟨S1x2048, .f32⟩
  | 22 => ⟨S2048, .f32⟩
  | 23 => ⟨S1x1x2048, .f32⟩
  | 24 => ⟨S128x64x2048, .f32⟩
  | 25 => ⟨S128x64x2048, .f32⟩
  | 26 => ⟨S128x64x2048, .f32⟩
  | 27 => ⟨S1x2048, .f32⟩
  | 28 => ⟨S2048, .f32⟩
  | 29 => ⟨S1x1x2048, .f32⟩
  | 30 => ⟨S128x64x2048, .f32⟩
  | 31 => ⟨S128x64x2048, .f32⟩
  | 32 => ⟨S128x64x2048, .f32⟩
  | 33 => ⟨S128x64x2048, .f32⟩
  | 34 => ⟨S1x2048, .f32⟩
  | 35 => ⟨S2048, .f32⟩
  | 36 => ⟨S1x1x2048, .f32⟩
  | 37 => ⟨S128x64x2048, .f32⟩
  | 38 => ⟨S128x64x2048, .f32⟩
  | 39 => ⟨S128x64x2048, .f32⟩
  | 40 => ⟨S128x64x2048, .f32⟩
  | 41 => ⟨S1x2048, .f32⟩
  | 42 => ⟨S2048, .f32⟩
  | 43 => ⟨S1x1x2048, .f32⟩
  | 44 => ⟨S128x64x2048, .f32⟩
  | 45 => ⟨S128x64x2048, .f32⟩
  | 46 => ⟨S128x64x2048, .f32⟩
  | 47 => ⟨S128x64x2048, .f32⟩
  | 48 => ⟨S1x2048, .f32⟩
  | 49 => ⟨S2048, .f32⟩
  | 50 => ⟨S1x1x2048, .f32⟩
  | 51 => ⟨S128x64x2048, .f32⟩
  | 52 => ⟨S128x64x2048, .f32⟩
  | 53 => ⟨S128x64x2048, .f32⟩
  | 54 => ⟨S128x64x2048, .f32⟩
  | 55 => ⟨S1x2048, .f32⟩
  | 56 => ⟨S2048, .f32⟩
  | 57 => ⟨S1x1x2048, .f32⟩
  | 58 => ⟨S128x64x2048, .f32⟩
  | 59 => ⟨S128x64x2048, .f32⟩
  | 60 => ⟨S128x64x2048, .f32⟩
  | 61 => ⟨S128x64x2048, .f32⟩
  | 62 => ⟨S1x2048, .f32⟩
  | 63 => ⟨S2048, .f32⟩
  | 64 => ⟨S1x1x2048, .f32⟩
  | 65 => ⟨S128x64x2048, .f32⟩
  | 66 => ⟨S128x64x2048, .f32⟩
  | 67 => ⟨S128x64x2048, .f32⟩
  | 68 => ⟨S128x64x2048, .f32⟩
  | 69 => ⟨S1x2048, .f32⟩
  | 70 => ⟨S2048, .f32⟩
  | 71 => ⟨S1x1x2048, .f32⟩
  | 72 => ⟨S128x64x2048, .f32⟩
  | 73 => ⟨S128x64x2048, .f32⟩
  | 74 => ⟨S128x64x2048, .f32⟩
  | 75 => ⟨S128x64x2048, .f32⟩
  | 76 => ⟨S1x2048, .f32⟩
  | 77 => ⟨S2048, .f32⟩
  | 78 => ⟨S1x1x2048, .f32⟩
  | 79 => ⟨S128x64x2048, .f32⟩
  | 80 => ⟨S128x64x2048, .f32⟩
  | 81 => ⟨S128x64x2048, .f32⟩
  | 82 => ⟨S128x64x2048, .f32⟩
  | 83 => ⟨S1x2048, .f32⟩
  | 84 => ⟨S2048, .f32⟩
  | 85 => ⟨S1x1x2048, .f32⟩
  | 86 => ⟨S128x64x2048, .f32⟩
  | 87 => ⟨S128x64x2048, .f32⟩
  | 88 => ⟨S128x64x2048, .f32⟩
  | 89 => ⟨S128x64x2048, .f32⟩
  | 90 => ⟨S1x2048, .f32⟩
  | 91 => ⟨S2048, .f32⟩
  | 92 => ⟨S1x1x2048, .f32⟩
  | 93 => ⟨S128x64x2048, .f32⟩
  | 94 => ⟨S128x64x2048, .f32⟩
  | 95 => ⟨S128x64x2048, .f32⟩
  | 96 => ⟨S128x64x2048, .f32⟩
  | 97 => ⟨S1x2048, .f32⟩
  | 98 => ⟨S2048, .f32⟩
  | 99 => ⟨S1x1x2048, .f32⟩
  | 100 => ⟨S128x64x2048, .f32⟩
  | 101 => ⟨S128x64x2048, .f32⟩
  | 102 => ⟨S128x64x2048, .f32⟩
  | 103 => ⟨S128x64x2048, .f32⟩
  | 104 => ⟨S1x2048, .f32⟩
  | 105 => ⟨S2048, .f32⟩
  | 106 => ⟨S1x1x2048, .f32⟩
  | 107 => ⟨S128x64x2048, .f32⟩
  | 108 => ⟨S128x64x2048, .f32⟩
  | 109 => ⟨S128x64x2048, .f32⟩
  | 110 => ⟨S128x64x2048, .f32⟩
  | 111 => ⟨S1x2048, .f32⟩
  | 112 => ⟨S2048, .f32⟩
  | 113 => ⟨S1x1x2048, .f32⟩
  | 114 => ⟨S128x64x2048, .f32⟩
  | 115 => ⟨S128x64x2048, .f32⟩
  | 116 => ⟨S128x64x2048, .f32⟩
  | 117 => ⟨S128x64x2048, .f32⟩
  | 118 => ⟨S1x2048, .f32⟩
  | 119 => ⟨S2048, .f32⟩
  | 120 => ⟨S1x1x2048, .f32⟩
  | 121 => ⟨S128x64x2048, .f32⟩
  | 122 => ⟨S128x64x2048, .f32⟩
  | 123 => ⟨S128x64x2048, .f32⟩
  | 124 => ⟨S128x64x2048, .f32⟩
  | 125 => ⟨S1x2048, .f32⟩
  | 126 => ⟨S2048, .f32⟩
  | 127 => ⟨S1x1x2048, .f32⟩
  | _ => ⟨S2x4096x24576, .f32⟩

abbrev hbmTy0_1 (i : Nat) : BufTy := match i % 128 with
  | 0 => ⟨S128x64x2048, .f32⟩
  | 1 => ⟨S128x64x2048, .f32⟩
  | 2 => ⟨S128x64x2048, .f32⟩
  | 3 => ⟨S128x64x2048, .f32⟩
  | 4 => ⟨S1x2048, .f32⟩
  | 5 => ⟨S2048, .f32⟩
  | 6 => ⟨S1x1x2048, .f32⟩
  | 7 => ⟨S128x64x2048, .f32⟩
  | 8 => ⟨S128x64x2048, .f32⟩
  | 9 => ⟨S128x64x2048, .f32⟩
  | 10 => ⟨S128x64x2048, .f32⟩
  | 11 => ⟨S1x2048, .f32⟩
  | 12 => ⟨S2048, .f32⟩
  | 13 => ⟨S1x1x2048, .f32⟩
  | 14 => ⟨S128x64x2048, .f32⟩
  | 15 => ⟨S128x64x2048, .f32⟩
  | 16 => ⟨S128x64x2048, .f32⟩
  | 17 => ⟨S128x64x2048, .f32⟩
  | 18 => ⟨S1x2048, .f32⟩
  | 19 => ⟨S2048, .f32⟩
  | 20 => ⟨S1x1x2048, .f32⟩
  | 21 => ⟨S128x64x2048, .f32⟩
  | 22 => ⟨S128x64x2048, .f32⟩
  | 23 => ⟨S128x64x2048, .f32⟩
  | 24 => ⟨S128x64x2048, .f32⟩
  | 25 => ⟨S1x2048, .f32⟩
  | 26 => ⟨S2048, .f32⟩
  | 27 => ⟨S1x1x2048, .f32⟩
  | 28 => ⟨S128x64x2048, .f32⟩
  | 29 => ⟨S128x64x2048, .f32⟩
  | 30 => ⟨S128x64x2048, .f32⟩
  | 31 => ⟨S128x64x2048, .f32⟩
  | 32 => ⟨S1x2048, .f32⟩
  | 33 => ⟨S2048, .f32⟩
  | 34 => ⟨S1x1x2048, .f32⟩
  | 35 => ⟨S128x64x2048, .f32⟩
  | 36 => ⟨S128x64x2048, .f32⟩
  | 37 => ⟨S128x64x2048, .f32⟩
  | 38 => ⟨S128x64x2048, .f32⟩
  | 39 => ⟨S1x2048, .f32⟩
  | 40 => ⟨S2048, .f32⟩
  | 41 => ⟨S1x1x2048, .f32⟩
  | 42 => ⟨S128x64x2048, .f32⟩
  | 43 => ⟨S128x64x2048, .f32⟩
  | 44 => ⟨S128x64x2048, .f32⟩
  | 45 => ⟨S128x64x2048, .f32⟩
  | 46 => ⟨S1x2048, .f32⟩
  | 47 => ⟨S2048, .f32⟩
  | 48 => ⟨S1x1x2048, .f32⟩
  | 49 => ⟨S128x64x2048, .f32⟩
  | 50 => ⟨S128x64x2048, .f32⟩
  | 51 => ⟨S128x64x2048, .f32⟩
  | 52 => ⟨S128x64x2048, .f32⟩
  | 53 => ⟨S1x2048, .f32⟩
  | 54 => ⟨S2048, .f32⟩
  | 55 => ⟨S1x1x2048, .f32⟩
  | 56 => ⟨S128x64x2048, .f32⟩
  | 57 => ⟨S128x64x2048, .f32⟩
  | 58 => ⟨S128x64x2048, .f32⟩
  | 59 => ⟨S128x64x2048, .f32⟩
  | 60 => ⟨S1x2048, .f32⟩
  | 61 => ⟨S2048, .f32⟩
  | 62 => ⟨S1x1x2048, .f32⟩
  | 63 => ⟨S128x64x2048, .f32⟩
  | 64 => ⟨S128x64x2048, .f32⟩
  | 65 => ⟨S128x64x2048, .f32⟩
  | 66 => ⟨S128x64x2048, .f32⟩
  | 67 => ⟨S1x2048, .f32⟩
  | 68 => ⟨S2048, .f32⟩
  | 69 => ⟨S1x1x2048, .f32⟩
  | 70 => ⟨S128x64x2048, .f32⟩
  | 71 => ⟨S128x64x2048, .f32⟩
  | 72 => ⟨S128x64x2048, .f32⟩
  | 73 => ⟨S128x64x2048, .f32⟩
  | 74 => ⟨S1x2048, .f32⟩
  | 75 => ⟨S2048, .f32⟩
  | 76 => ⟨S1x1x2048, .f32⟩
  | 77 => ⟨S128x64x2048, .f32⟩
  | 78 => ⟨S128x64x2048, .f32⟩
  | 79 => ⟨S128x64x2048, .f32⟩
  | 80 => ⟨S128x64x2048, .f32⟩
  | 81 => ⟨S1x2048, .f32⟩
  | 82 => ⟨S2048, .f32⟩
  | 83 => ⟨S1x1x2048, .f32⟩
  | 84 => ⟨S128x64x2048, .f32⟩
  | 85 => ⟨S128x64x2048, .f32⟩
  | 86 => ⟨S128x64x2048, .f32⟩
  | 87 => ⟨S128x64x2048, .f32⟩
  | 88 => ⟨S1x2048, .f32⟩
  | 89 => ⟨S2048, .f32⟩
  | 90 => ⟨S1x1x2048, .f32⟩
  | 91 => ⟨S128x64x2048, .f32⟩
  | 92 => ⟨S128x64x2048, .f32⟩
  | 93 => ⟨S128x64x2048, .f32⟩
  | 94 => ⟨S128x64x2048, .f32⟩
  | 95 => ⟨S1x2048, .f32⟩
  | 96 => ⟨S2048, .f32⟩
  | 97 => ⟨S1x1x2048, .f32⟩
  | 98 => ⟨S128x64x2048, .f32⟩
  | 99 => ⟨S128x64x2048, .f32⟩
  | 100 => ⟨S128x64x2048, .f32⟩
  | 101 => ⟨S128x64x2048, .f32⟩
  | 102 => ⟨S1x2048, .f32⟩
  | 103 => ⟨S2048, .f32⟩
  | 104 => ⟨S1x1x2048, .f32⟩
  | 105 => ⟨S128x64x2048, .f32⟩
  | 106 => ⟨S128x64x2048, .f32⟩
  | 107 => ⟨S128x64x2048, .f32⟩
  | 108 => ⟨S1x1x2048, .f32⟩
  | 109 => ⟨S128x64x2048, .f32⟩
  | 110 => ⟨S128x64x2048, .f32⟩
  | 111 => ⟨S2x4096x2048, .f32⟩
  | 112 => ⟨S2x4096x2048, .f32⟩
  | 113 => ⟨S_, .f32⟩
  | 114 => ⟨S2x4096, .f32⟩
  | 115 => ⟨S2x4096x1, .f32⟩
  | 116 => ⟨S_, .f32⟩
  | 117 => ⟨S2x4096x1, .f32⟩
  | 118 => ⟨S2x4096x1, .f32⟩
  | 119 => ⟨S2x4096x2048, .f32⟩
  | 120 => ⟨S2x4096x2048, .f32⟩
  | 121 => ⟨S2x4096x2048, .f32⟩
  | 122 => ⟨S_, .f32⟩
  | 123 => ⟨S2x4096, .f32⟩
  | 124 => ⟨S2x4096x1, .f32⟩
  | 125 => ⟨S_, .f32⟩
  | 126 => ⟨S2x4096x1, .f32⟩
  | 127 => ⟨S2x4096x1, .f32⟩
  | _ => ⟨S2x4096x24576, .f32⟩

abbrev hbmTy0_2 (i : Nat) : BufTy := match i % 128 with
  | 0 => ⟨S_, .f32⟩
  | 1 => ⟨S2x4096x1, .f32⟩
  | 2 => ⟨S2x4096x1, .f32⟩
  | 3 => ⟨S2x4096x1, .f32⟩
  | 4 => ⟨S2x4096x2048, .f32⟩
  | 5 => ⟨S2x4096x2048, .f32⟩
  | 6 => ⟨S1x1x2048, .f32⟩
  | 7 => ⟨S2x4096x2048, .f32⟩
  | 8 => ⟨S2x4096x2048, .f32⟩
  | 9 => ⟨S1x1x2048, .f32⟩
  | 10 => ⟨S2x4096x2048, .f32⟩
  | 11 => ⟨S2x4096x2048, .f32⟩
  | 12 => ⟨S2x4096x2048, .f32⟩
  | 13 => ⟨S2x4096x2048, .f32⟩
  | 14 => ⟨S_, .f32⟩
  | 15 => ⟨S2x4096x2048, .f32⟩
  | 16 => ⟨S2x4096x2048, .f32⟩
  | 17 => ⟨S_, .f32⟩
  | 18 => ⟨S2x4096x2048, .f32⟩
  | 19 => ⟨S2x4096x2048, .f32⟩
  | 20 => ⟨S2x4096x2048, .f32⟩
  | 21 => ⟨S2x4096x2048, .f32⟩
  | 22 => ⟨S2x4096x2048, .f32⟩
  | 23 => ⟨S_, .f32⟩
  | 24 => ⟨S2x4096x2048, .f32⟩
  | 25 => ⟨S2x4096x2048, .f32⟩
  | 26 => ⟨S_, .f32⟩
  | 27 => ⟨S2x4096x2048, .f32⟩
  | 28 => ⟨S2x4096x2048, .f32⟩
  | 29 => ⟨S2x4096x2048, .f32⟩
  | 30 => ⟨S2x4096x2048, .f32⟩
  | 31 => ⟨S2x4096x2048, .bf16⟩
  | _ => ⟨S2x4096x24576, .f32⟩

abbrev hbmTy (i : Nat) : BufTy := match i / 128 with
  | 0 => hbmTy0_0 i
  | 1 => hbmTy0_1 i
  | 2 => hbmTy0_2 i
  | _ => ⟨S2x4096x24576, .f32⟩

abbrev bufTy : (tb : Table) → Fin (tcTables nBuf tb) → BufTy
  | .hbm, ⟨i, _⟩ => hbmTy i
  | _, _ => ⟨S2x4096x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_cst_1 : Ref sig .tc := ⟨.hbm, 241, rfl⟩
abbrev main_v232 : Ref sig .tc := ⟨.hbm, 242, rfl⟩
abbrev main_v233 : Ref sig .tc := ⟨.hbm, 243, rfl⟩
abbrev main_cst_2 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_cst_3 : Ref sig .tc := ⟨.hbm, 250, rfl⟩
abbrev main_v239 : Ref sig .tc := ⟨.hbm, 251, rfl⟩
abbrev main_v240 : Ref sig .tc := ⟨.hbm, 252, rfl⟩
abbrev main_cst_4 : Ref sig .tc := ⟨.hbm, 253, rfl⟩
abbrev main_v241 : Ref sig .tc := ⟨.hbm, 254, rfl⟩
abbrev main_v242 : Ref sig .tc := ⟨.hbm, 255, rfl⟩
abbrev main_cst_5 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_call1_v0 : Ref sig .tc := ⟨.hbm, 268, rfl⟩
abbrev main_call1_v1 : Ref sig .tc := ⟨.hbm, 269, rfl⟩
abbrev main_call1_cst : Ref sig .tc := ⟨.hbm, 270, rfl⟩
abbrev main_call1_v2 : Ref sig .tc := ⟨.hbm, 271, rfl⟩
abbrev main_call1_v3 : Ref sig .tc := ⟨.hbm, 272, rfl⟩
abbrev main_call1_cst_0 : Ref sig .tc := ⟨.hbm, 273, rfl⟩
abbrev main_call1_v4 : Ref sig .tc := ⟨.hbm, 274, rfl⟩
abbrev main_call1_v5 : Ref sig .tc := ⟨.hbm, 275, rfl⟩
abbrev main_v254 : Ref sig .tc := ⟨.hbm, 276, rfl⟩
abbrev main_call2_v0 : Ref sig .tc := ⟨.hbm, 277, rfl⟩
abbrev main_call2_v1 : Ref sig .tc := ⟨.hbm, 278, rfl⟩
abbrev main_call2_cst : Ref sig .tc := ⟨.hbm, 279, rfl⟩
abbrev main_call2_v2 : Ref sig .tc := ⟨.hbm, 280, rfl⟩
abbrev main_call2_v3 : Ref sig .tc := ⟨.hbm, 281, rfl⟩
abbrev main_call2_cst_0 : Ref sig .tc := ⟨.hbm, 282, rfl⟩
abbrev main_call2_v4 : Ref sig .tc := ⟨.hbm, 283, rfl⟩
abbrev main_call2_v5 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩

abbrev nD : Nat := 1
abbrev τ : Topo := Topo.v7x

variable {F : FTy → Type} [FloatOps F]
-- ==== Kernel13.lean ====
abbrev S16x256x24576 : Shape := ⟨3, ![16, 256, 24576]⟩
abbrev S31x2048 : Shape := ⟨2, ![31, 2048]⟩
abbrev S2048 : Shape := ⟨1, ![2048]⟩
abbrev S1x2048 : Shape := ⟨2, ![1, 2048]⟩
abbrev S16x256x2048 : Shape := ⟨3, ![16, 256, 2048]⟩
abbrev S1x256x2048 : Shape := ⟨3, ![1, 256, 2048]⟩
abbrev S288x2048 : Shape := ⟨2, ![288, 2048]⟩
abbrev S256x2048 : Shape := ⟨2, ![256, 2048]⟩
abbrev S16x2048 : Shape := ⟨2, ![16, 2048]⟩
abbrev S64x128 : Shape := ⟨2, ![64, 128]⟩
abbrev S1x128 : Shape := ⟨2, ![1, 128]⟩
abbrev S96x128 : Shape := ⟨2, ![96, 128]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S16x256x24576, .f32⟩
  | .hbm, ⟨1, _⟩ => ⟨S31x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S16x256x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S31x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x256x2048, .bf16⟩
  | .local _ .vmem, ⟨11, _⟩ => ⟨S1x256x2048, .bf16⟩
  | .local _ .vmem, ⟨12, _⟩ => ⟨S288x2048, .f32⟩
  | .local _ .vmem, ⟨13, _⟩ => ⟨S256x2048, .f32⟩
  | _, _ => ⟨S16x256x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S31x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S16x256x24576 : Shape := ⟨3, ![16, 256, 24576]⟩
abbrev S31x2048 : Shape := ⟨2, ![31, 2048]⟩
abbrev S2048 : Shape := ⟨1, ![2048]⟩
abbrev S16x256x2048 : Shape := ⟨3, ![16, 256, 2048]⟩
abbrev S_ : Shape := ⟨0, ![]⟩
abbrev S16x286x2048 : Shape := ⟨3, ![16, 286, 2048]⟩
abbrev S1x2048 : Shape := ⟨2, ![1, 2048]⟩
abbrev S1x1x2048 : Shape := ⟨3, ![1, 1, 2048]⟩
abbrev S16x256 : Shape := ⟨2, ![16, 256]⟩
abbrev S16x256x1 : Shape := ⟨3, ![16, 256, 1]⟩

abbrev nBuf : Space → Nat
  | .hbm => 286
  | .vmem => 0
  | .smem => 0
  | _ => 0

abbrev hbmTy0_0 (i : Nat) : BufTy := match i % 128 with
  | 0 => ⟨S16x256x24576, .f32⟩
  | 1 => ⟨S31x2048, .f32⟩
  | 2 => ⟨S2048, .f32⟩
  | 3 => ⟨S2048, .f32⟩
  | 4 => ⟨S2048, .f32⟩
  | 5 => ⟨S16x256x2048, .f32⟩
  | 6 => ⟨S16x256x2048, .f32⟩
  | 7 => ⟨S16x256x2048, .f32⟩
  | 8 => ⟨S16x256x2048, .f32⟩
  | 9 => ⟨S_, .f32⟩
  | 10 => ⟨S16x256x2048, .f32⟩
  | 11 => ⟨S16x256x2048, .f32⟩
  | 12 => ⟨S_, .f32⟩
  | 13 => ⟨S16x256x2048, .f32⟩
  | 14 => ⟨S16x256x2048, .f32⟩
  | 15 => ⟨S16x256x2048, .f32⟩
  | 16 => ⟨S_, .i32⟩
  | 17 => ⟨S_, .f32⟩
  | 18 => ⟨S16x286x2048, .f32⟩
  | 19 => ⟨S16x256x2048, .f32⟩
  | 20 => ⟨S1x2048, .f32⟩
  | 21 => ⟨S2048, .f32⟩
  | 22 => ⟨S1x1x2048, .f32⟩
  | 23 => ⟨S16x256x2048, .f32⟩
  | 24 => ⟨S16x256x2048, .f32⟩
  | 25 => ⟨S16x256x2048, .f32⟩
  | 26 => ⟨S1x2048, .f32⟩
  | 27 => ⟨S2048, .f32⟩
  | 28 => ⟨S1x1x2048, .f32⟩
  | 29 => ⟨S16x256x2048, .f32⟩
  | 30 => ⟨S16x256x2048, .f32⟩
  | 31 => ⟨S16x256x2048, .f32⟩
  | 32 => ⟨S16x256x2048, .f32⟩
  | 33 => ⟨S1x2048, .f32⟩
  | 34 => ⟨S2048, .f32⟩
  | 35 => ⟨S1x1x2048, .f32⟩
  | 36 => ⟨S16x256x2048, .f32⟩
  | 37 => ⟨S16x256x2048, .f32⟩
  | 38 => ⟨S16x256x2048, .f32⟩
  | 39 => ⟨S16x256x2048, .f32⟩
  | 40 => ⟨S1x2048, .f32⟩
  | 41 => ⟨S2048, .f32⟩
  | 42 => ⟨S1x1x2048, .f32⟩
  | 43 => ⟨S16x256x2048, .f32⟩
  | 44 => ⟨S16x256x2048, .f32⟩
  | 45 => ⟨S16x256x2048, .f32⟩
  | 46 => ⟨S16x256x2048, .f32⟩
  | 47 => ⟨S1x2048, .f32⟩
  | 48 => ⟨S2048, .f32⟩
  | 49 => ⟨S1x1x2048, .f32⟩
  | 50 => ⟨S16x256x2048, .f32⟩
  | 51 => ⟨S16x256x2048, .f32⟩
  | 52 => ⟨S16x256x2048, .f32⟩
  | 53 => ⟨S16x256x2048, .f32⟩
  | 54 => ⟨S1x2048, .f32⟩
  | 55 => ⟨S2048, .f32⟩
  | 56 => ⟨S1x1x2048, .f32⟩
  | 57 => ⟨S16x256x2048, .f32⟩
  | 58 => ⟨S16x256x2048, .f32⟩
  | 59 => ⟨S16x256x2048, .f32⟩
  | 60 => ⟨S16x256x2048, .f32⟩
  | 61 => ⟨S1x2048, .f32⟩
  | 62 => ⟨S2048, .f32⟩
  | 63 => ⟨S1x1x2048, .f32⟩
  | 64 => ⟨S16x256x2048, .f32⟩
  | 65 => ⟨S16x256x2048, .f32⟩
  | 66 => ⟨S16x256x2048, .f32⟩
  | 67 => ⟨S16x256x2048, .f32⟩
  | 68 => ⟨S1x2048, .f32⟩
  | 69 => ⟨S2048, .f32⟩
  | 70 => ⟨S1x1x2048, .f32⟩
  | 71 => ⟨S16x256x2048, .f32⟩
  | 72 => ⟨S16x256x2048, .f32⟩
  | 73 => ⟨S16x256x2048, .f32⟩
  | 74 => ⟨S16x256x2048, .f32⟩
  | 75 => ⟨S1x2048, .f32⟩
  | 76 => ⟨S2048, .f32⟩
  | 77 => ⟨S1x1x2048, .f32⟩
  | 78 => ⟨S16x256x2048, .f32⟩
  | 79 => ⟨S16x256x2048, .f32⟩
  | 80 => ⟨S16x256x2048, .f32⟩
  | 81 => ⟨S16x256x2048, .f32⟩
  | 82 => ⟨S1x2048, .f32⟩
  | 83 => ⟨S2048, .f32⟩
  | 84 => ⟨S1x1x2048, .f32⟩
  | 85 => ⟨S16x256x2048, .f32⟩
  | 86 => ⟨S16x256x2048, .f32⟩
  | 87 => ⟨S16x256x2048, .f32⟩
  | 88 => ⟨S16x256x2048, .f32⟩
  | 89 => ⟨S1x2048, .f32⟩
  | 90 => ⟨S2048, .f32⟩
  | 91 => ⟨S1x1x2048, .f32⟩
  | 92 => ⟨S16x256x2048, .f32⟩
  | 93 => ⟨S16x256x2048, .f32⟩
  | 94 => ⟨S16x256x2048, .f32⟩
  | 95 => ⟨S16x256x2048, .f32⟩
  | 96 => ⟨S1x2048, .f32⟩
  | 97 => ⟨S2048, .f32⟩
  | 98 => ⟨S1x1x2048, .f32⟩
  | 99 => ⟨S16x256x2048, .f32⟩
  | 100 => ⟨S16x256x2048, .f32⟩
  | 101 => ⟨S16x256x2048, .f32⟩
  | 102 => ⟨S16x256x2048, .f32⟩
  | 103 => ⟨S1x2048, .f32⟩
  | 104 => ⟨S2048, .f32⟩
  | 105 => ⟨S1x1x2048, .f32⟩
  | 106 => ⟨S16x256x2048, .f32⟩
  | 107 => ⟨S16x256x2048, .f32⟩
  | 108 => ⟨S16x256x2048, .f32⟩
  | 109 => ⟨S16x256x2048, .f32⟩
  | 110 => ⟨S1x2048, .f32⟩
  | 111 => ⟨S2048, .f32⟩
  | 112 => ⟨S1x1x2048, .f32⟩
  | 113 => ⟨S16x256x2048, .f32⟩
  | 114 => ⟨S16x256x2048, .f32⟩
  | 115 => ⟨S16x256x2048, .f32⟩
  | 116 => ⟨S16x256x2048, .f32⟩
  | 117 => ⟨S1x2048, .f32⟩
  | 118 => ⟨S2048, .f32⟩
  | 119 => ⟨S1x1x2048, .f32⟩
  | 120 => ⟨S16x256x2048, .f32⟩
  | 121 => ⟨S16x256x2048, .f32⟩
  | 122 => ⟨S16x256x2048, .f32⟩
  | 123 => ⟨S16x256x2048, .f32⟩
  | 124 => ⟨S1x2048, .f32⟩
  | 125 => ⟨S2048, .f32⟩
  | 126 => ⟨S1x1x2048, .f32⟩
  | 127 => ⟨S16x256x2048, .f32⟩
  | _ => ⟨S16x256x24576, .f32⟩

abbrev hbmTy0_1 (i : Nat) : BufTy := match i % 128 with
  | 0 => ⟨S16x256x2048, .f32⟩
  | 1 => ⟨S16x256x2048, .f32⟩
  | 2 => ⟨S16x256x2048, .f32⟩
  | 3 => ⟨S1x2048, .f32⟩
  | 4 => ⟨S2048, .f32⟩
  | 5 => ⟨S1x1x2048, .f32⟩
  | 6 => ⟨S16x256x2048, .f32⟩
  | 7 => ⟨S16x256x2048, .f32⟩
  | 8 => ⟨S16x256x2048, .f32⟩
  | 9 => ⟨S16x256x2048, .f32⟩
  | 10 => ⟨S1x2048, .f32⟩
  | 11 => ⟨S2048, .f32⟩
  | 12 => ⟨S1x1x2048, .f32⟩
  | 13 => ⟨S16x256x2048, .f32⟩
  | 14 => ⟨S16x256x2048, .f32⟩
  | 15 => ⟨S16x256x2048, .f32⟩
  | 16 => ⟨S16x256x2048, .f32⟩
  | 17 => ⟨S1x2048, .f32⟩
  | 18 => ⟨S2048, .f32⟩
  | 19 => ⟨S1x1x2048, .f32⟩
  | 20 => ⟨S16x256x2048, .f32⟩
  | 21 => ⟨S16x256x2048, .f32⟩
  | 22 => ⟨S16x256x2048, .f32⟩
  | 23 => ⟨S16x256x2048, .f32⟩
  | 24 => ⟨S1x2048, .f32⟩
  | 25 => ⟨S2048, .f32⟩
  | 26 => ⟨S1x1x2048, .f32⟩
  | 27 => ⟨S16x256x2048, .f32⟩
  | 28 => ⟨S16x256x2048, .f32⟩
  | 29 => ⟨S16x256x2048, .f32⟩
  | 30 => ⟨S16x256x2048, .f32⟩
  | 31 => ⟨S1x2048, .f32⟩
  | 32 => ⟨S2048, .f32⟩
  | 33 => ⟨S1x1x2048, .f32⟩
  | 34 => ⟨S16x256x2048, .f32⟩
  | 35 => ⟨S16x256x2048, .f32⟩
  | 36 => ⟨S16x256x2048, .f32⟩
  | 37 => ⟨S16x256x2048, .f32⟩
  | 38 => ⟨S1x2048, .f32⟩
  | 39 => ⟨S2048, .f32⟩
  | 40 => ⟨S1x1x2048, .f32⟩
  | 41 => ⟨S16x256x2048, .f32⟩
  | 42 => ⟨S16x256x2048, .f32⟩
  | 43 => ⟨S16x256x2048, .f32⟩
  | 44 => ⟨S16x256x2048, .f32⟩
  | 45 => ⟨S1x2048, .f32⟩
  | 46 => ⟨S2048, .f32⟩
  | 47 => ⟨S1x1x2048, .f32⟩
  | 48 => ⟨S16x256x2048, .f32⟩
  | 49 => ⟨S16x256x2048, .f32⟩
  | 50 => ⟨S16x256x2048, .f32⟩
  | 51 => ⟨S16x256x2048, .f32⟩
  | 52 => ⟨S1x2048, .f32⟩
  | 53 => ⟨S2048, .f32⟩
  | 54 => ⟨S1x1x2048, .f32⟩
  | 55 => ⟨S16x256x2048, .f32⟩
  | 56 => ⟨S16x256x2048, .f32⟩
  | 57 => ⟨S16x256x2048, .f32⟩
  | 58 => ⟨S16x256x2048, .f32⟩
  | 59 => ⟨S1x2048, .f32⟩
  | 60 => ⟨S2048, .f32⟩
  | 61 => ⟨S1x1x2048, .f32⟩
  | 62 => ⟨S16x256x2048, .f32⟩
  | 63 => ⟨S16x256x2048, .f32⟩
  | 64 => ⟨S16x256x2048, .f32⟩
  | 65 => ⟨S16x256x2048, .f32⟩
  | 66 => ⟨S1x2048, .f32⟩
  | 67 => ⟨S2048, .f32⟩
  | 68 => ⟨S1x1x2048, .f32⟩
  | 69 => ⟨S16x256x2048, .f32⟩
  | 70 => ⟨S16x256x2048, .f32⟩
  | 71 => ⟨S16x256x2048, .f32⟩
  | 72 => ⟨S16x256x2048, .f32⟩
  | 73 => ⟨S1x2048, .f32⟩
  | 74 => ⟨S2048, .f32⟩
  | 75 => ⟨S1x1x2048, .f32⟩
  | 76 => ⟨S16x256x2048, .f32⟩
  | 77 => ⟨S16x256x2048, .f32⟩
  | 78 => ⟨S16x256x2048, .f32⟩
  | 79 => ⟨S16x256x2048, .f32⟩
  | 80 => ⟨S1x2048, .f32⟩
  | 81 => ⟨S2048, .f32⟩
  | 82 => ⟨S1x1x2048, .f32⟩
  | 83 => ⟨S16x256x2048, .f32⟩
  | 84 => ⟨S16x256x2048, .f32⟩
  | 85 => ⟨S16x256x2048, .f32⟩
  | 86 => ⟨S16x256x2048, .f32⟩
  | 87 => ⟨S1x2048, .f32⟩
  | 88 => ⟨S2048, .f32⟩
  | 89 => ⟨S1x1x2048, .f32⟩
  | 90 => ⟨S16x256x2048, .f32⟩
  | 91 => ⟨S16x256x2048, .f32⟩
  | 92 => ⟨S16x256x2048, .f32⟩
  | 93 => ⟨S16x256x2048, .f32⟩
  | 94 => ⟨S1x2048, .f32⟩
  | 95 => ⟨S2048, .f32⟩
  | 96 => ⟨S1x1x2048, .f32⟩
  | 97 => ⟨S16x256x2048, .f32⟩
  | 98 => ⟨S16x256x2048, .f32⟩
  | 99 => ⟨S16x256x2048, .f32⟩
  | 100 => ⟨S16x256x2048, .f32⟩
  | 101 => ⟨S1x2048, .f32⟩
  | 102 => ⟨S2048, .f32⟩
  | 103 => ⟨S1x1x2048, .f32⟩
  | 104 => ⟨S16x256x2048, .f32⟩
  | 105 => ⟨S16x256x2048, .f32⟩
  | 106 => ⟨S16x256x2048, .f32⟩
  | 107 => ⟨S1x1x2048, .f32⟩
  | 108 => ⟨S16x256x2048, .f32⟩
  | 109 => ⟨S16x256x2048, .f32⟩
  | 110 => ⟨S16x256x2048, .f32⟩
  | 111 => ⟨S_, .f32⟩
  | 112 => ⟨S16x256, .f32⟩
  | 113 => ⟨S16x256x1, .f32⟩
  | 114 => ⟨S_, .f32⟩
  | 115 => ⟨S16x256x1, .f32⟩
  | 116 => ⟨S16x256x1, .f32⟩
  | 117 => ⟨S16x256x2048, .f32⟩
  | 118 => ⟨S16x256x2048, .f32⟩
  | 119 => ⟨S16x256x2048, .f32⟩
  | 120 => ⟨S_, .f32⟩
  | 121 => ⟨S16x256, .f32⟩
  | 122 => ⟨S16x256x1, .f32⟩
  | 123 => ⟨S_, .f32⟩
  | 124 => ⟨S16x256x1, .f32⟩
  | 125 => ⟨S16x256x1, .f32⟩
  | 126 => ⟨S_, .f32⟩
  | 127 => ⟨S16x256x1, .f32⟩
  | _ => ⟨S16x256x24576, .f32⟩

abbrev hbmTy0_2 (i : Nat) : BufTy := match i % 128 with
  | 0 => ⟨S16x256x1, .f32⟩
  | 1 => ⟨S16x256x1, .f32⟩
  | 2 => ⟨S16x256x2048, .f32⟩
  | 3 => ⟨S16x256x2048, .f32⟩
  | 4 => ⟨S1x1x2048, .f32⟩
  | 5 => ⟨S16x256x2048, .f32⟩
  | 6 => ⟨S16x256x2048, .f32⟩
  | 7 => ⟨S1x1x2048, .f32⟩
  | 8 => ⟨S16x256x2048, .f32⟩
  | 9 => ⟨S16x256x2048, .f32⟩
  | 10 => ⟨S16x256x2048, .f32⟩
  | 11 => ⟨S16x256x2048, .f32⟩
  | 12 => ⟨S_, .f32⟩
  | 13 => ⟨S16x256x2048, .f32⟩
  | 14 => ⟨S16x256x2048, .f32⟩
  | 15 => ⟨S_, .f32⟩
  | 16 => ⟨S16x256x2048, .f32⟩
  | 17 => ⟨S16x256x2048, .f32⟩
  | 18 => ⟨S16x256x2048, .f32⟩
  | 19 => ⟨S16x256x2048, .f32⟩
  | 20 => ⟨S16x256x2048, .f32⟩
  | 21 => ⟨S_, .f32⟩
  | 22 => ⟨S16x256x2048, .f32⟩
  | 23 => ⟨S16x256x2048, .f32⟩
  | 24 => ⟨S_, .f32⟩
  | 25 => ⟨S16x256x2048, .f32⟩
  | 26 => ⟨S16x256x2048, .f32⟩
  | 27 => ⟨S16x256x2048, .f32⟩
  | 28 => ⟨S16x256x2048, .f32⟩
  | 29 => ⟨S16x256x2048, .bf16⟩
  | _ => ⟨S16x256x24576, .f32⟩

abbrev hbmTy (i : Nat) : BufTy := match i / 128 with
  | 0 => hbmTy0_0 i
  | 1 => hbmTy0_1 i
  | 2 => hbmTy0_2 i
  | _ => ⟨S16x256x24576, .f32⟩

abbrev bufTy : (tb : Table) → Fin (tcTables nBuf tb) → BufTy
  | .hbm, ⟨i, _⟩ => hbmTy i
  | _, _ => ⟨S16x256x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_cst_1 : Ref sig .tc := ⟨.hbm, 239, rfl⟩
abbrev main_v230 : Ref sig .tc := ⟨.hbm, 240, rfl⟩
abbrev main_v231 : Ref sig .tc := ⟨.hbm, 241, rfl⟩
abbrev main_cst_2 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_cst_3 : Ref sig .tc := ⟨.hbm, 248, rfl⟩
abbrev main_v237 : Ref sig .tc := ⟨.hbm, 249, rfl⟩
abbrev main_v238 : Ref sig .tc := ⟨.hbm, 250, rfl⟩
abbrev main_cst_4 : Ref sig .tc := ⟨.hbm, 251, rfl⟩
abbrev main_v239 : Ref sig .tc := ⟨.hbm, 252, rfl⟩
abbrev main_v240 : Ref sig .tc := ⟨.hbm, 253, rfl⟩
abbrev main_cst_5 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_call1_v0 : Ref sig .tc := ⟨.hbm, 266, rfl⟩
abbrev main_call1_v1 : Ref sig .tc := ⟨.hbm, 267, rfl⟩
abbrev main_call1_cst : Ref sig .tc := ⟨.hbm, 268, rfl⟩
abbrev main_call1_v2 : Ref sig .tc := ⟨.hbm, 269, rfl⟩
abbrev main_call1_v3 : Ref sig .tc := ⟨.hbm, 270, rfl⟩
abbrev main_call1_cst_0 : Ref sig .tc := ⟨.hbm, 271, rfl⟩
abbrev main_call1_v4 : Ref sig .tc := ⟨.hbm, 272, rfl⟩
abbrev main_call1_v5 : Ref sig .tc := ⟨.hbm, 273, rfl⟩
abbrev main_v252 : Ref sig .tc := ⟨.hbm, 274, rfl⟩
abbrev main_call2_v0 : Ref sig .tc := ⟨.hbm, 275, rfl⟩
abbrev main_call2_v1 : Ref sig .tc := ⟨.hbm, 276, rfl⟩
abbrev main_call2_cst : Ref sig .tc := ⟨.hbm, 277, rfl⟩
abbrev main_call2_v2 : Ref sig .tc := ⟨.hbm, 278, rfl⟩
abbrev main_call2_v3 : Ref sig .tc := ⟨.hbm, 279, rfl⟩
abbrev main_call2_cst_0 : Ref sig .tc := ⟨.hbm, 280, rfl⟩
abbrev main_call2_v4 : Ref sig .tc := ⟨.hbm, 281, rfl⟩
abbrev main_call2_v5 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩

abbrev nD : Nat := 1
abbrev τ : Topo := Topo.v7x

variable {F : FTy → Type} [FloatOps F]
-- ==== Kernel14.lean ====
abbrev S8192x4096 : Shape := ⟨2, ![8192, 4096]⟩
abbrev S1x4096x24576 : Shape := ⟨3, ![1, 4096, 24576]⟩
abbrev S8192x24576 : Shape := ⟨2, ![8192, 24576]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x24576, .bf16⟩
  | .hbm, ⟨2, _⟩ => ⟨S8192x24576, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x4096 : Shape := ⟨2, ![8192, 4096]⟩
abbrev S1x4096x24576 : Shape := ⟨3, ![1, 4096, 24576]⟩
abbrev S4096x24576 : Shape := ⟨2, ![4096, 24576]⟩
abbrev S8192x24576 : Shape := ⟨2, ![8192, 24576]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x24576, .bf16⟩
  | .hbm, ⟨2, _⟩ => ⟨S8192x4096, .f32⟩
  | .hbm, ⟨3, _⟩ => ⟨S4096x24576, .bf16⟩
  | .hbm, ⟨4, _⟩ => ⟨S4096x24576, .f32⟩
  | .hbm, ⟨5, _⟩ => ⟨S8192x24576, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.InProj.lean ====
/-
  The input projection (`_in_proj`): its two results are the reference's terms. The product's block (i, j) is the product of the
  1024 rows of `h` with the 1024 columns of the layer's weight, its whole contraction inside one grid point; the second result is
  layer 1's weight, one 128-column block a grid point. At the ideal values a change of float format is the identity, so both are
  the reference's `einsum` and slice.
-/
module

public import proofs.«01_k».proof.Defs
public import proofs.«01_k».proof.Proof.Gen.KernelIdeal.Value
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.InProj

open Cert.KernelIdeal Cert.KernelIdeal.Gen

variable (m : (ℓ : Loc nD τ sig) → Buf (Elt Ideal) ℓ)

/-- The reference's product, over the two arguments. -/
abbrev prod (h : FVec Ideal ReferenceIdeal.S8192x4096 .bf16) (w : FVec Ideal ReferenceIdeal.S4x4096x24576 .f32) :
    FVec Ideal ReferenceIdeal.S8192x24576 .f32 :=
  Host.dotGeneral ReferenceIdeal.dot_S8192x4096_S4096x24576_S8192x24576_1_0_0_1_n_n none
    (extf .f32 h ReferenceIdeal.Gen.bitsLt_bf16_f32)
    (shapeCast _ (extractStridedSlice ReferenceIdeal.S1x4096x24576 ![0, 0, 0] w ReferenceIdeal.Gen.slices_S4x4096x24576_S1x4096x24576_0_0_0)
      ReferenceIdeal.Gen.shapeCasts_S1x4096x24576_S4096x24576)

/-- The reference's next weight, over the weight stack. -/
abbrev next (w : FVec Ideal ReferenceIdeal.S4x4096x24576 .f32) : FVec Ideal ReferenceIdeal.S1x4096x24576 .bf16 :=
  truncf .bf16 (extractStridedSlice ReferenceIdeal.S1x4096x24576 ![1, 0, 0] w ReferenceIdeal.Gen.slices_S4x4096x24576_S1x4096x24576_1_0_0)
    ReferenceIdeal.Gen.bitsLt_bf16_f32

/-- Each window's block index at grid point `t`, the second grid axis running fastest (24 points). -/
theorem idx : ∀ t : Fin cfg0.N, win0_0.index t = ![t.val / 24, 0] ∧ win0_1.index t = ![0, 0, t.val % 24]
    ∧ win0_2.index t = ![1, 0, t.val] ∧ win0_3.index t = ![t.val / 24, t.val % 24] ∧ win0_4.index t = ![0, 0, t.val] :=
  (by decide +kernel : ∀ t : Fin grid0.N, _)

/-- A point's product block, at a block index, is the reference's product at the array index under it. -/
theorem point_prod (c : Dev nD) (t : Fin cfg0.N) (y) : k0_pay1 (iblk m c 0 t) (iblk m c 1 t) y
    = prod (m ((c : Thread nD τ).loc main_arg0)) (m ((c : Thread nD τ).loc main_arg1)) (((cfg0.win 3).blk t).view.emb y) := by
  pointwise [k0_pay1, prod]
  blk_point [iblk, V, idx t]

/-- A point's cast block, at a block index, is the next weight at the array index under it. -/
theorem point_next (c : Dev nD) (t : Fin cfg0.N) (y) : k0_pay2 (iblk m c 2 t) y
    = next (m ((c : Thread nD τ).loc main_arg1)) (((cfg0.win 4).blk t).view.emb y) := by
  pointwise [k0_pay2, next]
  blk_point [iblk, V, idx t]

/-- After the run the product's array is the reference's product. -/
theorem final_prod (c : Dev nD) : (dats m 0 c).arrAt 3 cfg0.N
    = prod (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_prod m c t y

/-- After the run the cast's array is the reference's next weight. -/
theorem final_next (c : Dev nD) : (dats m 0 c).arrAt 4 cfg0.N = next (m ((c : Thread nD τ).loc main_arg1)) := by
  refine (dats m 0 c).arrAt_eq_of_covers 4 _ (by decide +kernel) fun t _ y => ?_
  blk_simp
  rw [after0_4]; frame_out
  exact point_next m c t y

end Cert.KernelIdeal.InProj

namespace Cert.Proof.InProj

/-- The input projection computes the reference's two results: both run, and from equal arguments the results are equal. -/
theorem algebraic : Cert.algebraic_KernelIdeal_ReferenceIdeal := by
  intro m ρ m' ρ' _ hagree
  refine ⟨fun c => Cert.KernelIdeal.InProj.prod (m (c.tc.loc Cert.KernelIdeal.main_arg0)) (m (c.tc.loc Cert.KernelIdeal.main_arg1)),
    fun c => Cert.KernelIdeal.InProj.next (m (c.tc.loc Cert.KernelIdeal.main_arg1)), ?_, ?_⟩
  · exact (θ_run Cert.KernelIdeal.defs _ _).mono
      (fun _ h c => ⟨(h c).1.trans (Cert.KernelIdeal.InProj.final_prod m c),
        (h c).2.1.trans (Cert.KernelIdeal.InProj.final_next m c), (h c).2.2⟩)
      (Cert.KernelIdeal.Value.run_blocks m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [(hagree c).1, (hagree c).2]
    · rw [(hagree c).2]

end Cert.Proof.InProj

end
-- ==== Proof.Sigmoid.lean ====
module
public import Idealize.ShloMosaic.Lib.Pipeline.ValueKit
public import Idealize.ShloMosaic.Lib.IdealHost
@[expose] public section
noncomputable section
open Idealize.ShloMosaic

namespace Cert.Sigmoid

/-- The bit pattern the kernels write for one half denotes the real number one half. -/
theorem half : Ideal.ofBits .f32 0x3F000000#32 = ((1 / 2 : ℝ) : EReal) := by
  simp [Ideal.ofBits, Ideal.ieee, -EReal.coe_mul]; norm_num

/-- On the reals, half of one plus the hyperbolic tangent of `x / 2` is the logistic function
of `x`. -/
theorem tanh_half (x : ℝ) :
    1 / 2 * Real.tanh (1 / 2 * x) + 1 / 2 = (1 + Real.exp (-x))⁻¹ := by
  have hp : 0 < Real.exp (1 / 2 * x) := Real.exp_pos _
  have hx : Real.exp (-x) = (Real.exp (1 / 2 * x))⁻¹ * (Real.exp (1 / 2 * x))⁻¹ := by
    rw [← Real.exp_neg, ← Real.exp_add]; congr 1; ring
  rw [Real.tanh_eq_sinh_div_cosh, Real.sinh_eq, Real.cosh_eq, hx, Real.exp_neg]
  field_simp
  ring

/-- The kernels' spelling of the sigmoid, through the hyperbolic tangent, is the plain spelling
`1 / (1 + exp (-x))` at every extended real, the infinities included. -/
theorem eq (x : EReal) :
    Ideal.ofBits .f32 0x3F000000#32 * Ideal.tanh (Ideal.ofBits .f32 0x3F000000#32 * x)
      + Ideal.ofBits .f32 0x3F000000#32 = Ideal.div 1 (1 + Ideal.exp (-x)) := by
  change _ = Ideal.logistic x
  rw [half]
  have h2 : (0 : ℝ) < 1 / 2 := by norm_num
  induction x using EReal.rec with
  | bot =>
    rw [EReal.coe_mul_bot_of_pos h2, Ideal.tanh_bot, Ideal.logistic_bot,
      show (-1 : EReal) = ((-1 : ℝ) : EReal) by norm_num, ← EReal.coe_mul, ← EReal.coe_add]
    norm_num
  | top =>
    rw [EReal.coe_mul_top_of_pos h2, Ideal.tanh_top, Ideal.logistic_top,
      show (1 : EReal) = ((1 : ℝ) : EReal) by norm_num, ← EReal.coe_mul, ← EReal.coe_add]
    norm_num
  | coe r =>
    rw [← EReal.coe_mul, Ideal.tanh_coe, Ideal.logistic_coe, ← EReal.coe_mul, ← EReal.coe_add,
      tanh_half]

end Cert.Sigmoid
-- ==== Proof.MergeProj.lean ====
/-
  The two branches' projections, gated and added (`_merge_proj`): block (i, j) of the result is two products of 1024 rows with
  512 columns, each times the sigmoid of its block of gates.
-/
module

public import proofs.«01_k».proof.Defs
public import proofs.«01_k».proof.Proof.Gen.Kernel2Ideal.Value
public import proofs.«01_k».proof.Proof.Gen.Reference2Ideal.Run
public import proofs.«01_k».proof.Proof.Sigmoid
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.MergeProj

open Cert.Kernel2Ideal Cert.Kernel2Ideal.Gen

variable (m : (ℓ : Loc nD τ sig) → Buf (Elt Ideal) ℓ)

/-- The reference's own term, over the arguments. -/
abbrev ref (a0 : FVec Ideal Reference2Ideal.S8192x2048 .bf16) (a1 : FVec Ideal Reference2Ideal.S8192x2048 .bf16) (a2 : FVec Ideal Reference2Ideal.S4x2048x4096 .f32) (a3 : FVec Ideal Reference2Ideal.S4x2048x4096 .f32) (a4 : FVec Ideal Reference2Ideal.S8192x24576 .f32) :
    FVec Ideal Reference2Ideal.S8192x4096 .bf16 :=
  truncf .bf16 (addf (mulf (Host.divf (broadcastInDim Reference2Ideal.S8192x4096 ![] Reference2Ideal.Gen.bcast_S_S8192x4096 (constant Reference2Ideal.S_ .f32 0x3F800000#32)) (addf (broadcastInDim Reference2Ideal.S8192x4096 ![] Reference2Ideal.Gen.bcast_S_S8192x4096 (constant Reference2Ideal.S_ .f32 0x3F800000#32)) (Host.exp (Host.negf (extractStridedSlice Reference2Ideal.S8192x4096 ![0, 16384] a4 Reference2Ideal.Gen.slices_S8192x24576_S8192x4096_0_16384))))) (Host.dotGeneral Reference2Ideal.dot_S8192x2048_S2048x4096_S8192x4096_1_0_0_1_n_n none (extf .f32 a0 Reference2Ideal.Gen.bitsLt_bf16_f32) (shapeCast _ (extractStridedSlice Reference2Ideal.S1x2048x4096 ![0, 0, 0] a2 Reference2Ideal.Gen.slices_S4x2048x4096_S1x2048x4096_0_0_0) Reference2Ideal.Gen.shapeCasts_S1x2048x4096_S2048x4096))) (mulf (Host.divf (broadcastInDim Reference2Ideal.S8192x4096 ![] Reference2Ideal.Gen.bcast_S_S8192x4096 (constant Reference2Ideal.S_ .f32 0x3F800000#32)) (addf (broadcastInDim Reference2Ideal.S8192x4096 ![] Reference2Ideal.Gen.bcast_S_S8192x4096 (constant Reference2Ideal.S_ .f32 0x3F800000#32)) (Host.exp (Host.negf (extractStridedSlice Reference2Ideal.S8192x4096 ![0, 20480] a4 Reference2Ideal.Gen.slices_S8192x24576_S8192x4096_0_20480))))) (Host.dotGeneral Reference2Ideal.dot_S8192x2048_S2048x4096_S8192x4096_1_0_0_1_n_n none (extf .f32 a1 Reference2Ideal.Gen.bitsLt_bf16_f32) (shapeCast _ (extractStridedSlice Reference2Ideal.S1x2048x4096 ![0, 0, 0] a3 Reference2Ideal.Gen.slices_S4x2048x4096_S1x2048x4096_0_0_0) Reference2Ideal.Gen.shapeCasts_S1x2048x4096_S2048x4096)))) Reference2Ideal.Gen.bitsLt_bf16_f32

/-- Each window's block index at grid point `t`. -/
theorem idx : ∀ t : Fin cfg0.N, win0_0.index t = ![t.val / 8, 0] ∧ win0_1.index t = ![0, 0, t.val % 8] ∧ win0_2.index t = ![t.val / 8, 0] ∧ win0_3.index t = ![0, 0, t.val % 8] ∧ win0_4.index t = ![t.val / 8, 32 + t.val % 8] ∧ win0_5.index t = ![t.val / 8, 40 + t.val % 8] ∧ win0_6.index t = ![t.val / 8, t.val % 8] :=
  (by decide +kernel : ∀ t : Fin grid0.N, _)

/-- At a grid point, an entry of the written block is the reference's entry at the place of the result where it lands. -/
theorem point (c : Dev nD) (t : Fin cfg0.N) (y) :
    k0_pay1 (iblk m c 0 t) (iblk m c 1 t) (iblk m c 2 t) (iblk m c 3 t) (iblk m c 4 t) (iblk m c 5 t) y
      = ref (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, ref]
  simp only [Sigmoid.eq]
  blk_point [iblk, V, idx t]

/-- The result is the reference's term of the arguments. -/
theorem final (c : Dev nD) : (dats m 0 c).arrAt 6 cfg0.N = ref (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  exact point m c t y

end Cert.Kernel2Ideal.MergeProj

namespace Cert.Proof.MergeProj

/-- The kernel and the reference end with the same result. -/
theorem algebraic : Cert.algebraic_Kernel2Ideal_Reference2Ideal := by
  intro m ρ m' ρ' _ hagree
  refine ⟨fun c => Cert.Kernel2Ideal.MergeProj.ref (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)), ?_, ?_⟩
  · exact (θ_run Cert.Kernel2Ideal.defs _ _).mono
      (fun _ h c => ⟨(h c).1.trans (Cert.Kernel2Ideal.MergeProj.final m c), (h c).2⟩)
      (Cert.Kernel2Ideal.Value.run_blocks m ρ)
  · refine (θ_run Cert.Reference2Ideal.defs _ _).mono (fun _ h c => ⟨(h c).1.trans ?_, (h c).2⟩)
      (Cert.Reference2Ideal.Value.run (F := Ideal) m' ρ')
    rw [(hagree c).1, (hagree c).2.1, (hagree c).2.2.1, (hagree c).2.2.2.1, (hagree c).2.2.2.2]

end Cert.Proof.MergeProj

end
-- ==== Proof.OutProj.lean ====
/-
  The output projection with the gated residual (`_out_proj`): block (i, j) of the result is the residual plus the gate times the
  product of 1024 rows with 1024 columns, the whole contraction inside one grid point.
-/
module

public import proofs.«01_k».proof.Defs
public import proofs.«01_k».proof.Proof.Gen.Kernel3Ideal.Value
public import proofs.«01_k».proof.Proof.Gen.Reference3Ideal.Run
public import proofs.«01_k».proof.Proof.Sigmoid
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.OutProj

open Cert.Kernel3Ideal Cert.Kernel3Ideal.Gen

variable (m : (ℓ : Loc nD τ sig) → Buf (Elt Ideal) ℓ)

/-- The reference's own term, over the arguments. -/
abbrev ref (a0 : FVec Ideal Reference3Ideal.S8192x4096 .bf16) (a1 : FVec Ideal Reference3Ideal.S4x4096x4096 .f32) (a2 : FVec Ideal Reference3Ideal.S4x4096x4096 .f32) (a3 : FVec Ideal Reference3Ideal.S8x1x12288 .f32) :
    FVec Ideal Reference3Ideal.S8192x4096 .f32 :=
  shapeCast _ (addf (extractStridedSlice Reference3Ideal.S2x4096x4096 ![0, 0, 0] a2 Reference3Ideal.Gen.slices_S4x4096x4096_S2x4096x4096_0_0_0) (mulf (broadcastInDim Reference3Ideal.S2x4096x4096 ![0, 1, 2] Reference3Ideal.Gen.bcast_S2x1x4096_S2x4096x4096_0_1_2 (broadcastInDim Reference3Ideal.S2x1x4096 ![0, 2] Reference3Ideal.Gen.bcast_S2x4096_S2x1x4096_0_2 (shapeCast _ (extractStridedSlice Reference3Ideal.S2x1x4096 ![1, 0, 8192] a3 Reference3Ideal.Gen.slices_S8x1x12288_S2x1x4096_1_0_8192) Reference3Ideal.Gen.shapeCasts_S2x1x4096_S2x4096))) (Host.dotGeneral Reference3Ideal.dot_S2x4096x4096_S4096x4096_S2x4096x4096_2_0_01_1_n_n none (extf .f32 (shapeCast _ a0 Reference3Ideal.Gen.shapeCasts_S8192x4096_S2x4096x4096) Reference3Ideal.Gen.bitsLt_bf16_f32) (shapeCast _ (extractStridedSlice Reference3Ideal.S1x4096x4096 ![0, 0, 0] a1 Reference3Ideal.Gen.slices_S4x4096x4096_S1x4096x4096_0_0_0) Reference3Ideal.Gen.shapeCasts_S1x4096x4096_S4096x4096)))) Reference3Ideal.Gen.shapeCasts_S2x4096x4096_S8192x4096

/-- Each window's block index at grid point `t`. -/
theorem idx : ∀ t : Fin cfg0.N, win0_0.index t = ![t.val / 4, 0] ∧ win0_1.index t = ![0, 0, t.val % 4] ∧ win0_2.index t = ![t.val / 4, t.val % 4] ∧ win0_3.index t = ![1 + t.val / 4 / 4, 0, 8 + t.val % 4] ∧ win0_4.index t = ![t.val / 4, t.val % 4] :=
  (by decide +kernel : ∀ t : Fin grid0.N, _)

/-- The stream with its batch and row axes flattened, read at an index. -/
theorem flat {α : Type} (x : Reference3Ideal.S4x4096x4096.Idx → α) (i : S16384x4096.Idx) (j : Reference3Ideal.S4x4096x4096.Idx)
    (h0 : (j 0).val = (i 0).val / 4096) (h1 : (j 1).val = (i 0).val % 4096) (h2 : (j 2).val = (i 1).val) :
    shapeCast S16384x4096 x shapeCasts_S4x4096x4096_S16384x4096 i = x j := by
  pointwise
  blk_ext

/-- The residual's block: an entry of it is the entry of the stream, in the row of the flattened batch where the block lies. -/
theorem resid (c : Dev nD) (t : Fin cfg0.N) (y : S1024x1024.Idx) (j : Reference3Ideal.S4x4096x4096.Idx)
    (h0 : (j 0).val = (t.val / 4 * 1024 + (y 0).val) / 4096) (h1 : (j 1).val = (t.val / 4 * 1024 + (y 0).val) % 4096)
    (h2 : (j 2).val = t.val % 4 * 1024 + (y 1).val) :
    iblk m c 2 t y = m ((c : Thread nD τ).loc main_arg2) j := by
  blk_simp [iblk, V, idx t]
  entry_read
  refine flat _ _ j ?_ ?_ ?_ <;> blk_simp [idx t] <;> assumption

set_option maxHeartbeats 1000000 in
/-- At a grid point, an entry of the written block is the reference's entry at the place of the result where it lands. -/
theorem point (c : Dev nD) (t : Fin cfg0.N) (y) :
    k0_pay1 (iblk m c 0 t) (iblk m c 1 t) (iblk m c 2 t) (iblk m c 3 t) y
      = ref (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, ref]
  have ht : t.val < 32 := t.isLt
  have e : ∀ (j : Reference3Ideal.S4x4096x4096.Idx),
      (j 0).val = (((cfg0.win 4).blk t).view.emb y 0).val / 4096 → (j 1).val = (((cfg0.win 4).blk t).view.emb y 0).val % 4096 →
      (j 2).val = (((cfg0.win 4).blk t).view.emb y 1).val → iblk m c 2 t y = m ((c : Thread nD τ).loc main_arg2) j := by
    intro j h0 h1 h2
    blk_simp [idx t] at h0 h1 h2
    exact resid m c t y j h0 h1 h2
  reads_congr
  · exact e _ rfl rfl rfl
  all_goals blk_point [iblk, V, idx t]

/-- The result is the reference's term of the arguments. -/
theorem final (c : Dev nD) : (dats m 0 c).arrAt 4 cfg0.N = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.Kernel3Ideal.OutProj

namespace Cert.Proof.OutProj

/-- The kernel and the reference end with the same result. -/
theorem algebraic : Cert.algebraic_Kernel3Ideal_Reference3Ideal := by
  intro m ρ m' ρ' _ hagree
  refine ⟨fun c => Cert.Kernel3Ideal.OutProj.ref (m (c.tc.loc Cert.Kernel3Ideal.main_arg0)) (m (c.tc.loc Cert.Kernel3Ideal.main_arg1)) (m (c.tc.loc Cert.Kernel3Ideal.main_arg2)) (m (c.tc.loc Cert.Kernel3Ideal.main_arg3)), ?_, ?_⟩
  · exact (θ_run Cert.Kernel3Ideal.defs _ _).mono
      (fun _ h c => ⟨(h c).1.trans (Cert.Kernel3Ideal.OutProj.final m c), (h c).2⟩)
      (Cert.Kernel3Ideal.Value.run_blocks m ρ)
  · refine (θ_run Cert.Reference3Ideal.defs _ _).mono (fun _ h c => ⟨(h c).1.trans ?_, (h c).2⟩)
      (Cert.Reference3Ideal.Value.run (F := Ideal) m' ρ')
    rw [(hagree c).1, (hagree c).2.1, (hagree c).2.2.1, (hagree c).2.2.2]

end Cert.Proof.OutProj

end
-- ==== Proof.CvPost.lean ====
/-
  After the convolution (`_cv_post`): layer norm of each row of the convolution's result, SiLU, and the gate's SiLU.
-/
module

public import proofs.«01_k».proof.Defs
public import proofs.«01_k».proof.Proof.Gen.Kernel4Ideal.Value
public import proofs.«01_k».proof.Proof.Gen.Reference4Ideal.Run
public import proofs.«01_k».proof.Proof.Sigmoid
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.CvPost

open Cert.Kernel4Ideal Cert.Kernel4Ideal.Gen

variable (m : (ℓ : Loc nD τ sig) → Buf (Elt Ideal) ℓ)

/-- The mean of each row, as the reference takes it. -/
abbrev rowMean (x : FVec Ideal Reference4Ideal.S2x4096x2048 .f32) : FVec Ideal Reference4Ideal.S2x4096x1 .f32 :=
  Host.divf (broadcastInDim Reference4Ideal.S2x4096x1 ![0, 1] Reference4Ideal.Gen.bcast_S2x4096_S2x4096x1_0_1
      (Host.reduceAdd x (constant Reference4Ideal.S_ .f32 0x00000000#32) Reference4Ideal.Gen.reducesTo_S2x4096x2048_S2x4096_d2
        Reference4Ideal.Gen.h_S_))
    (broadcastInDim Reference4Ideal.S2x4096x1 ![] Reference4Ideal.Gen.bcast_S_S2x4096x1
      (constant Reference4Ideal.S_ .f32 0x45000000#32))

/-- A row less its mean. -/
abbrev centred (x : FVec Ideal Reference4Ideal.S2x4096x2048 .f32) : FVec Ideal Reference4Ideal.S2x4096x2048 .f32 :=
  subf x (broadcastInDim Reference4Ideal.S2x4096x2048 ![0, 1, 2] Reference4Ideal.Gen.bcast_S2x4096x1_S2x4096x2048_0_1_2 (rowMean x))

/-- Layer norm of each row, with its gain and its offset. -/
abbrev affine (x : FVec Ideal Reference4Ideal.S2x4096x2048 .f32) (g b : FVec Ideal Reference4Ideal.S2048 .f32) :
    FVec Ideal Reference4Ideal.S2x4096x2048 .f32 :=
  addf
    (mulf
      (mulf (centred x)
        (broadcastInDim Reference4Ideal.S2x4096x2048 ![0, 1, 2] Reference4Ideal.Gen.bcast_S2x4096x1_S2x4096x2048_0_1_2
          (Host.rsqrt (addf (rowMean (mulf (centred x) (centred x)))
            (broadcastInDim Reference4Ideal.S2x4096x1 ![] Reference4Ideal.Gen.bcast_S_S2x4096x1
              (constant Reference4Ideal.S_ .f32 0x358637BD#32))))))
      (broadcastInDim Reference4Ideal.S2x4096x2048 ![0, 1, 2] Reference4Ideal.Gen.bcast_S1x1x2048_S2x4096x2048_0_1_2
        (broadcastInDim Reference4Ideal.S1x1x2048 ![2] Reference4Ideal.Gen.bcast_S2048_S1x1x2048_2 g)))
    (broadcastInDim Reference4Ideal.S2x4096x2048 ![0, 1, 2] Reference4Ideal.Gen.bcast_S1x1x2048_S2x4096x2048_0_1_2
      (broadcastInDim Reference4Ideal.S1x1x2048 ![2] Reference4Ideal.Gen.bcast_S2048_S1x1x2048_2 b))

/-- An array times its own sigmoid. -/
abbrev silu (x : FVec Ideal Reference4Ideal.S2x4096x2048 .f32) : FVec Ideal Reference4Ideal.S2x4096x2048 .f32 :=
  mulf x
    (Host.divf
      (broadcastInDim Reference4Ideal.S2x4096x2048 ![] Reference4Ideal.Gen.bcast_S_S2x4096x2048
        (constant Reference4Ideal.S_ .f32 0x3F800000#32))
      (addf
        (broadcastInDim Reference4Ideal.S2x4096x2048 ![] Reference4Ideal.Gen.bcast_S_S2x4096x2048
          (constant Reference4Ideal.S_ .f32 0x3F800000#32))
        (Host.exp (Host.negf x))))

/-- The reference's own term, over the arguments. -/
abbrev ref (a0 : FVec Ideal Reference4Ideal.S2x4096x2048 .f32) (a1 : FVec Ideal Reference4Ideal.S2x4096x24576 .f32) (a2 : FVec Ideal Reference4Ideal.S2048 .f32) (a3 : FVec Ideal Reference4Ideal.S2048 .f32) :
    FVec Ideal Reference4Ideal.S2x4096x2048 .bf16 :=
  truncf .bf16
    (mulf (silu (affine a0 a2 a3)) (silu (extractStridedSlice Reference4Ideal.S2x4096x2048 ![0, 0, 14336] a1
      Reference4Ideal.Gen.slices_S2x4096x24576_S2x4096x2048_0_0_14336)))
    Reference4Ideal.Gen.bitsLt_bf16_f32

/-- Each window's block index at grid point `t`. -/
theorem idx : ∀ t : Fin cfg0.N, win0_0.index t = ![t.val / 16, t.val % 16, 0] ∧ win0_1.index t = ![t.val / 16, t.val % 16, 7] ∧ win0_2.index t = ![0, 0] ∧ win0_3.index t = ![0, 0] ∧ win0_4.index t = ![t.val / 16, t.val % 16, 0] :=
  (by decide +kernel : ∀ t : Fin grid0.N, _)

/-- At a grid point, an entry of the written block is the reference's entry at the place of the result where it lands. -/
theorem point (c : Dev nD) (t : Fin cfg0.N) (y) :
    k0_pay1 (k0_pay2 (iblk m c 0 t) (iblk m c 2 t) (iblk m c 3 t)) (k0_pay3 (iblk m c 1 t)) (k0_pay4 (iblk m c 1 t)) y
      = ref (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, ref, silu, affine, centred, rowMean]
  simp only [Sigmoid.eq]
  blk_point [iblk, V, idx t]

/-- The result is the reference's term of the arguments. -/
theorem final (c : Dev nD) : (dats m 0 c).arrAt 4 cfg0.N = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.Kernel4Ideal.CvPost

namespace Cert.Proof.CvPost

/-- The kernel and the reference end with the same result. -/
theorem algebraic : Cert.algebraic_Kernel4Ideal_Reference4Ideal := by
  intro m ρ m' ρ' _ hagree
  refine ⟨fun c => Cert.Kernel4Ideal.CvPost.ref (m (c.tc.loc Cert.Kernel4Ideal.main_arg0)) (m (c.tc.loc Cert.Kernel4Ideal.main_arg1)) (m (c.tc.loc Cert.Kernel4Ideal.main_arg2)) (m (c.tc.loc Cert.Kernel4Ideal.main_arg3)), ?_, ?_⟩
  · exact (θ_run Cert.Kernel4Ideal.defs _ _).mono
      (fun _ h c => ⟨(h c).1.trans (Cert.Kernel4Ideal.CvPost.final m c), (h c).2⟩)
      (Cert.Kernel4Ideal.Value.run_blocks m ρ)
  · refine (θ_run Cert.Reference4Ideal.defs _ _).mono (fun _ h c => ⟨(h c).1.trans ?_, (h c).2⟩)
      (Cert.Reference4Ideal.Value.run (F := Ideal) m' ρ')
    rw [Cert.Reference4Ideal.Value.res_main_v26, (hagree c).1, (hagree c).2.1, (hagree c).2.2.1, (hagree c).2.2.2]

end Cert.Proof.CvPost

end
-- ==== Proof.ConvColRef.lean ====
module
public import proofs.«01_k».proof.Defs
public import proofs.«01_k».proof.Proof.Gen.Reference5Ideal.Run
public import Idealize.ShloMosaic.Lib.Pipeline.ValueKit

@[expose] public section

set_option maxRecDepth 16384

noncomputable section

open Idealize.ShloMosaic Idealize.ShloMosaic.TcCoe Idealize.SL.Sem

namespace Cert.ConvCol

open Cert.Reference5Ideal Cert.Reference5Ideal.Gen Cert.Reference5Ideal.Value

/-- A matrix read at natural coordinates, zero outside it. -/
def at2 {a b : ℕ} (f : (⟨2, ![a, b]⟩ : Shape).Idx → EReal) (r c : ℕ) : EReal :=
  if h : r < a ∧ c < b then f (ix2 ⟨r, h.1⟩ ⟨c, h.2⟩) else 0

/-- An entry of the reference's padded image, 15 rows of zeros above and below its 64 rows: the first projection times the sigmoid
of the second. -/
def img (x : S2x4096x24576.Idx → EReal) (a : Fin 2) (q : Fin 2048) (h w : ℕ) : EReal :=
  if p : (15 ≤ h ∧ h - 15 < 64) ∧ w < 64 then
    x (ix3 a ⟨(h - 15) * 64 + w, by omega⟩ ⟨10240 + q.val, by omega⟩)
      * Ideal.div 1 (1 + Ideal.exp (-x (ix3 a ⟨(h - 15) * 64 + w, by omega⟩ ⟨12288 + q.val, by omega⟩)))
  else 0

/-- The convolution along the columns of the image: 31 taps per channel, and the channel's bias. -/
def conv (x : S2x4096x24576.Idx → EReal) (w : S31x2048.Idx → EReal)
    (b : S2048.Idx → EReal) : S2x4096x2048.Idx → EReal := fun i =>
  ∑ j ∈ Finset.range 31, img x (i 0) (i 2) (j + (i 1).val / 64) ((i 1).val % 64) * at2 w j (i 2).val + b (ix1 (i 2))

/-- The reference's padded image. -/
theorem padded_ref (L : Valuation τ sig (Elt Ideal)) (a : Fin 2) (h : Fin 94) (w : Fin 64) (q : Fin 2048) :
    res_main_v10 (F := Ideal) L (ix4 a h w q) = img (L (Proc.devRef .tc main_arg0)) a q h.val w.val := by
  pointwise [res_main_v10]
  unfold img
  by_cases p : 15 ≤ h.val ∧ h.val - 15 < 64
  · rw [dif_pos p, dif_pos ⟨p, w.isLt⟩]
  · rw [dif_neg p, dif_neg fun p' => p p'.1]
    simp [FloatOps.sitofp]

set_option maxHeartbeats 2000000 in
/-- The reference's result is that convolution. -/
theorem reference (L : Valuation τ sig (Elt Ideal)) :
    shapeCast _ (addf (addf (res_main_v219 L) (mulf (extractStridedSlice S2x64x64x2048 ![0, 30, 0, 0] (res_main_v10 L) slices_S2x94x64x2048_S2x64x64x2048_0_30_0_0) (broadcastInDim S2x64x64x2048 ![0, 1, 2, 3] bcast_S1x1x1x2048_S2x64x64x2048_0_1_2_3 (broadcastInDim S1x1x1x2048 ![3] bcast_S2048_S1x1x1x2048_3 (shapeCast _ (extractStridedSlice S1x2048 ![30, 0] (L (Proc.devRef .tc main_arg1)) slices_S31x2048_S1x2048_30_0) shapeCasts_S1x2048_S2048))))) (broadcastInDim S2x64x64x2048 ![0, 1, 2, 3] bcast_S1x1x1x2048_S2x64x64x2048_0_1_2_3 (broadcastInDim S1x1x1x2048 ![3] bcast_S2048_S1x1x1x2048_3 (L (Proc.devRef .tc main_arg2))))) shapeCasts_S2x64x64x2048_S2x4096x2048
      = conv (L (Proc.devRef .tc main_arg0)) (L (Proc.devRef .tc main_arg1)) (L (Proc.devRef .tc main_arg2)) := by
  funext i
  idx_vars i
  have hc : ∀ i0 i1 i2, conv (L (Proc.devRef .tc main_arg0)) (L (Proc.devRef .tc main_arg1)) (L (Proc.devRef .tc main_arg2)) (ix3 i0 i1 i2)
      = ∑ j ∈ Finset.range 31, img (L (Proc.devRef .tc main_arg0)) i0 i2 (j + i1.val / 64) (i1.val % 64)
          * at2 (L (Proc.devRef .tc main_arg1)) j i2.val + L (Proc.devRef .tc main_arg2) (ix1 i2) := fun _ _ _ => rfl
  pointwise [res_main_v219, res_main_v149, res_main_v79]
  simp only [padded_ref, hc, Finset.sum_range_succ, Finset.sum_range_zero, zero_add]
  have hq : i2.val < 2048 := i2.isLt
  simp only [at2, hq, Nat.reduceLT, and_self, dite_true]
  rfl

end Cert.ConvCol

end
-- ==== Proof.ConvCol.lean ====
module
public import proofs.«01_k».proof.Defs
public import proofs.«01_k».proof.Proof.Gen.Kernel5Ideal.Value
public import proofs.«01_k».proof.Proof.ConvColRef
public import proofs.«01_k».proof.Proof.Sigmoid
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Kernel5Ideal.ConvCol

open Cert.Kernel5Ideal Cert.Kernel5Ideal.Gen Cert.ConvCol

variable (m : (ℓ : Loc nD τ sig) → Buf (Elt Ideal) ℓ)

/-- Each window's block index at grid point `t`. -/
theorem idx : ∀ t : Fin cfg0.N, win0_0.index t = ![t.val / 8, 0, 40 + t.val % 8] ∧ win0_1.index t = ![t.val / 8, 0, 48 + t.val % 8]
    ∧ win0_2.index t = ![0, t.val % 8] ∧ win0_3.index t = ![0, t.val % 8] ∧ win0_4.index t = ![t.val / 8, 0, t.val % 8] :=
  (by decide +kernel : ∀ t : Fin grid0.N, _)

/-- A load of a box of a matrix, at an index of the box, is the matrix at the coordinates moved by the box's offsets: at offsets
the loop's counter gives, in their closed form, -/
theorem load {a b p q : ℕ} {κ : Kind} {sp : Space} (v : View sig κ sp ⟨2, ![a, b]⟩ .f32) (X : v.ty.Contents (Elt Ideal))
    (off : Fin 2 → ℕ) [o : ClosedOff off] (inb : ∀ d, off d + (![p, q] : Fin 2 → ℕ) d ≤ (⟨2, ![a, b]⟩ : Shape).size d)
    (i : Fin p) (j : Fin q) :
    v.readAt (Elt Ideal) (Rect.unit (s := ⟨2, ![a, b]⟩) off ![p, q] inb).toLoadRect X (ix2 i j)
      = at2 (v.read (Elt Ideal) X) (o.form 0 + i.val) (o.form 1 + j.val) := by
  have h0 : off 0 + i.val < a := Nat.lt_of_lt_of_le (Nat.add_lt_add_left i.isLt _) (inb 0)
  have h1 : off 1 + j.val < b := Nat.lt_of_lt_of_le (Nat.add_lt_add_left j.isLt _) (inb 1)
  rw [← o.eq, at2, dif_pos ⟨h0, h1⟩, View.readAt_apply]
  congr 1
  funext d
  refine Fin.ext ?_
  revert d
  refine Fin.forall_fin_two.2 ⟨?_, ?_⟩
  · show off 0 + 1 * i.val = _; simp
  · show off 1 + 1 * j.val = _; simp

/-- and at literal offsets. -/
theorem loadLit {a b p q r s : ℕ} {κ : Kind} {sp : Space} (v : View sig κ sp ⟨2, ![a, b]⟩ .f32) (X : v.ty.Contents (Elt Ideal))
    (inb : ∀ d, (![r, s] : Fin 2 → ℕ) d + (![p, q] : Fin 2 → ℕ) d ≤ (⟨2, ![a, b]⟩ : Shape).size d)
    (i : Fin p) (j : Fin q) :
    v.readAt (Elt Ideal) (Rect.unit (s := ⟨2, ![a, b]⟩) ![r, s] ![p, q] inb).toLoadRect X (ix2 i j)
      = at2 (v.read (Elt Ideal) X) (r + i.val) (s + j.val) :=
  load (o := ⟨![r, s], rfl⟩) v X ![r, s] inb i j

/-- The bias and the 31 taps over a padded block, at row `r` of the block's group `k` of 64 rows and column `c`: tap `j` reads
64 rows further down than tap `j - 1`. -/
def taps (pad : S6016x256.Idx → EReal) (w : S31x256.Idx → EReal) (b : S1x256.Idx → EReal) (k r c : ℕ) : EReal :=
  at2 b 0 c + ∑ j ∈ Finset.range 31, at2 pad (64 * k + 64 * j + r) c * at2 w j c

set_option maxHeartbeats 2000000 in
/-- What one trip stores: at every place of its two boxes, the bias and the taps there. -/
theorem trip (𝒱 : Variants) (c : Dev nD) (bd : Option 𝒱.V) (i : grid0.Coords) (arg2 : Memref sig .tc .vmem S1x4096x256 .f32) (harg2 : arg2.IsWhole) (arg3 : Memref sig .tc .vmem S1x4096x256 .f32) (harg3 : arg3.IsWhole) (arg4 : Memref sig .tc .vmem S31x256 .f32) (harg4 : arg4.IsWhole) (arg5 : Memref sig .tc .vmem S1x256 .f32) (harg5 : arg5.IsWhole) (arg6 : Memref sig .tc .vmem S1x4096x256 .f32) (harg6 : arg6.IsWhole) (arg7 : Memref sig .tc .vmem S6016x256 .f32) (harg7 : arg7.IsWhole) (X4 : BufTy.Contents (Elt Ideal) arg4.view.ty) (X5 : BufTy.Contents (Elt Ideal) arg5.view.ty) (X7 : BufTy.Contents (Elt Ideal) arg7.view.ty) (k : Fin k0_t1_loop.trips) :
    ∀ p ∈ tripL_k0_t1 𝒱 c bd i arg2 harg2 arg3 harg3 arg4 harg4 arg5 harg5 arg6 harg6 arg7 harg7 X4 X5 X7 k, ∀ x,
      p.2 x = taps (arg7.view.read (Elt Ideal) X7) (arg4.view.read (Elt Ideal) X4) (arg5.view.read (Elt Ideal) X5)
        ((p.1.emb x 1).val / 64) ((p.1.emb x 1).val % 64) (p.1.emb x 2).val := by
  unfold tripL_k0_t1 trip_k0_t1
  dsimp only
  intro p hp
  simp only [List.mem_cons, List.not_mem_nil, or_false] at hp
  rcases hp with rfl | rfl
  · intro (x : S1x64x128.Idx)
    idx_vars x
    have e1 : (((Rect.unit (s := S1x4096x256) (k0_off4 k) ![1, 64, 128] (k0_off4_inb k)).emb (ix3 x0 x1 x2)) 1).val = 64 * k.val + x1.val := by
      show k0_off4 k 1 + 1 * x1.val = _
      simp [k0_off4_eq]
    have e2 : (((Rect.unit (s := S1x4096x256) (k0_off4 k) ![1, 64, 128] (k0_off4_inb k)).emb (ix3 x0 x1 x2)) 2).val = 128 + x2.val := by
      show k0_off4 k 2 + 1 * x2.val = _
      simp [k0_off4_eq]
    have hx : x1.val < 64 := x1.isLt
    rw [e1, e2, show (64 * k.val + x1.val) / 64 = k.val by omega, show (64 * k.val + x1.val) % 64 = x1.val by omega]
    sl_unfold_run_names
    pointwise [k0_pay4, k0_pay5, k0_pay6, k0_pay7, k0_pay8, k0_pay9, k0_pay10, k0_pay11, k0_pay12, k0_pay13, k0_pay14, k0_pay15, k0_pay16, k0_pay17]
    simp only [load, loadLit, taps, Finset.sum_range_succ, Finset.sum_range_zero, ← add_assoc, ClosedOff.form,
      Matrix.cons_val_zero, Matrix.cons_val_one, Nat.reduceMul, Nat.mul_zero, Nat.add_zero, Nat.zero_add, Fin.val_zero]
    simp only [zero_add, add_zero]
  · intro (x : S1x64x128.Idx)
    idx_vars x
    have e1 : (((Rect.unit (s := S1x4096x256) (k0_off2 k) ![1, 64, 128] (k0_off2_inb k)).emb (ix3 x0 x1 x2)) 1).val = 64 * k.val + x1.val := by
      show k0_off2 k 1 + 1 * x1.val = _
      simp [k0_off2_eq]
    have e2 : (((Rect.unit (s := S1x4096x256) (k0_off2 k) ![1, 64, 128] (k0_off2_inb k)).emb (ix3 x0 x1 x2)) 2).val = 0 + x2.val := by
      show k0_off2 k 2 + 1 * x2.val = _
      simp [k0_off2_eq]
    have hx : x1.val < 64 := x1.isLt
    rw [e1, e2, show (64 * k.val + x1.val) / 64 = k.val by omega, show (64 * k.val + x1.val) % 64 = x1.val by omega]
    sl_unfold_run_names
    pointwise [k0_pay4, k0_pay5, k0_pay6, k0_pay7, k0_pay8, k0_pay9, k0_pay10, k0_pay11, k0_pay12, k0_pay13, k0_pay14, k0_pay15, k0_pay16, k0_pay17]
    simp only [load, loadLit, taps, Finset.sum_range_succ, Finset.sum_range_zero, ← add_assoc, ClosedOff.form,
      Matrix.cons_val_zero, Matrix.cons_val_one, Nat.reduceMul, Nat.mul_zero, Nat.add_zero, Nat.zero_add, Fin.val_zero]
    simp only [zero_add, add_zero]

/-- So is everything the loop has stored before its trip `n`. -/
theorem loop (𝒱 : Variants) (c : Dev nD) (bd : Option 𝒱.V) (i : grid0.Coords) (arg2 : Memref sig .tc .vmem S1x4096x256 .f32) (harg2 : arg2.IsWhole) (arg3 : Memref sig .tc .vmem S1x4096x256 .f32) (harg3 : arg3.IsWhole) (arg4 : Memref sig .tc .vmem S31x256 .f32) (harg4 : arg4.IsWhole) (arg5 : Memref sig .tc .vmem S1x256 .f32) (harg5 : arg5.IsWhole) (arg6 : Memref sig .tc .vmem S1x4096x256 .f32) (harg6 : arg6.IsWhole) (arg7 : Memref sig .tc .vmem S6016x256 .f32) (harg7 : arg7.IsWhole) (X4 : BufTy.Contents (Elt Ideal) arg4.view.ty) (X5 : BufTy.Contents (Elt Ideal) arg5.view.ty) (X7 : BufTy.Contents (Elt Ideal) arg7.view.ty) (n : ℕ) (hn : n ≤ k0_t1_loop.trips) :
    ∀ p ∈ pb_k0_t1 𝒱 c bd i arg2 harg2 arg3 harg3 arg4 harg4 arg5 harg5 arg6 harg6 arg7 harg7 X4 X5 X7 n, ∀ x,
      p.2 x = taps (arg7.view.read (Elt Ideal) X7) (arg4.view.read (Elt Ideal) X4) (arg5.view.read (Elt Ideal) X5)
        ((p.1.emb x 1).val / 64) ((p.1.emb x 1).val % 64) (p.1.emb x 2).val := by
  induction n with
  | zero => intro p hp; exact absurd hp List.not_mem_nil
  | succ n ih =>
    intro p hp
    rw [show n + 1 = (⟨n, hn⟩ : Fin k0_t1_loop.trips).val + 1 from rfl, pb_k0_t1_succ] at hp
    rcases List.mem_append.1 hp with h | h
    · exact trip 𝒱 c bd i arg2 harg2 arg3 harg3 arg4 harg4 arg5 harg5 arg6 harg6 arg7 harg7 X4 X5 X7 ⟨n, hn⟩ p h
    · exact ih (Nat.le_of_succ_le hn) p h

/-- What the kernel keeps of a block between its two margins of 15 · 64 rows of zeros: the first projection times the sigmoid of
the second. -/
def padded (x0 x1 : S1x4096x256.Idx → EReal) : S6016x256.Idx → EReal := fun y =>
  if h : 960 ≤ (y 0).val ∧ (y 0).val < 5056 then
    x0 (ix3 0 ⟨(y 0).val - 960, by omega⟩ (y 1)) * Ideal.div 1 (1 + Ideal.exp (-x1 (ix3 0 ⟨(y 0).val - 960, by omega⟩ (y 1))))
  else 0

/-- The same, at an index by its coordinates. -/
theorem padded_ix2 (x0 x1 : S1x4096x256.Idx → EReal) (r : Fin 6016) (q : Fin 256) : padded x0 x1 (ix2 r q)
    = if h : 960 ≤ r.val ∧ r.val < 5056 then
        x0 (ix3 0 ⟨r.val - 960, by omega⟩ q) * Ideal.div 1 (1 + Ideal.exp (-x1 (ix3 0 ⟨r.val - 960, by omega⟩ q)))
      else 0 := rfl

set_option maxHeartbeats 2000000 in
/-- The scratch buffer, when the loop begins, holds the padded block. -/
theorem scratch (c : Dev nD) (t : Fin cfg0.N) (y : S6016x256.Idx) :
    (View.whole cc0_scratch0).read (Elt Ideal) ((View.whole cc0_scratch0).writes (Elt Ideal) (View.whole cc0_scratch0).junk
      (kernelRun0_A.sl.HS0_3 c (ms0_0 t) (hs0_0 t) (ms0_1 t) (hs0_1 t) (iblk m c 0 t) (iblk m c 1 t))) y
      = padded (iblk m c 0 t) (iblk m c 1 t) y := by
  refine View.read_writes_apply_of_pieces _ _ _ _ ?_ y ?_
  · sl_unfold_run_names
    intro p hp
    simp only [List.mem_cons, List.not_mem_nil, or_false] at hp
    rcases hp with rfl | rfl | rfl
    · intro (x : S960x256.Idx)
      idx_vars x
      have e : (((Rect.unit (s := S6016x256) ![5056, 0] S960x256.size inb_S6016x256_S960x256_5056_0).emb (ix2 x0 x1)) 0).val = 5056 + x0.val := by
        show 5056 + 1 * x0.val = _; omega
      rw [padded, dif_neg (by rw [e]; omega)]
      pointwise [k0_pay3]
    · intro (x : S4096x256.Idx)
      idx_vars x
      have e : (((Rect.unit (s := S6016x256) ![960, 0] S4096x256.size inb_S6016x256_S4096x256_960_0).emb (ix2 x0 x1)) 0).val = 960 + x0.val := by
        show 960 + 1 * x0.val = _; omega
      have hx := x0.isLt
      rw [padded, dif_pos (by rw [e]; omega)]
      pointwise [k0_pay2]
      simp only [Sigmoid.eq, Memref.IsWhole.readAt_unread]
      have a : ∀ h, (Rect.unit (s := S1x4096x256) ![0, 0, 0] ![1, 4096, 256] inb_S1x4096x256_S1x4096x256_0_0_0).idx (ix3 0 x0 x1)
          = ix3 0 ⟨((Rect.unit (s := S6016x256) ![960, 0] S4096x256.size inb_S6016x256_S4096x256_960_0).emb (ix2 x0 x1) 0).val - 960, h⟩
            ((Rect.unit (s := S6016x256) ![960, 0] S4096x256.size inb_S6016x256_S4096x256_960_0).emb (ix2 x0 x1) 1) := by
        intro h
        funext d
        refine Fin.ext ?_
        match d with
        | ⟨0, _⟩ => rfl
        | ⟨1, _⟩ => show 0 + 1 * x0.val = _ - 960; rw [e]; omega
        | ⟨2, _⟩ => rfl
      rw [a (by rw [e]; omega)]
      rfl
    · intro (x : S960x256.Idx)
      idx_vars x
      have hx := x0.isLt
      have e : (((Rect.unit (s := S6016x256) ![0, 0] S960x256.size inb_S6016x256_S960x256_0_0).emb (ix2 x0 x1)) 0).val = x0.val := by
        show 0 + 1 * x0.val = _; omega
      rw [padded, dif_neg (by rw [e]; omega)]
      pointwise [k0_pay1]
  · sl_unfold_run_names
    idx_vars y
    have hy := y0.isLt
    simp only [List.mem_cons, List.not_mem_nil, or_false, exists_eq_or_imp, exists_eq_left, Rect.mem_set_unit, Fin.forall_fin_two]
    simp
    omega

/-- The block the kernel leaves at grid point `t`. -/
def G (c : Dev nD) (t : Fin cfg0.N) : S1x4096x256.Idx → Elt Ideal .f32 := fun y =>
  taps (padded (iblk m c 0 t) (iblk m c 1 t)) (iblk m c 2 t) (iblk m c 3 t) ((y 1).val / 64) ((y 1).val % 64) (y 2).val

set_option maxHeartbeats 2000000 in
/-- What the kernel's body leaves at grid point `t` is that block. -/
theorem outs (c : Dev nD) (t : Fin cfg0.N) (y : S1x4096x256.Idx) :
    outsAt0 m c t y = G m c t y := by
  unfold outsAt0 out0_A_4
  refine View.read_writes_apply_of_pieces _ _ (G m c t) _ ?_ y (cover0_A_4 ..)
  unfold kernelRun0_A
  dsimp only
  intro p hp x
  refine (loop _ _ _ _ _ _ _ _ _ _ _ _ _ _ _ _ _ _ _ _ le_rfl p hp x).trans ?_
  rw [Memref.IsWhole.read_unread, Memref.IsWhole.read_unread]
  refine congrArg (fun f => taps f _ _ _ _ _) (funext fun y => ?_)
  exact scratch m c t y

/-- An entry of the first projection's block, -/
theorem in0 (c : Dev nD) (t : Fin cfg0.N) (r : Fin 4096) (q : Fin 256) (h h') :
    iblk m c 0 t (ix3 0 r q) = m ((c : Thread nD τ).loc main_arg0) (ix3 ⟨t.val / 8, h⟩ r ⟨10240 + (256 * (t.val % 8) + q.val), h'⟩) := by
  blk_point [iblk, V, idx t]

/-- of the second's, -/
theorem in1 (c : Dev nD) (t : Fin cfg0.N) (r : Fin 4096) (q : Fin 256) (h h') :
    iblk m c 1 t (ix3 0 r q) = m ((c : Thread nD τ).loc main_arg0) (ix3 ⟨t.val / 8, h⟩ r ⟨12288 + (256 * (t.val % 8) + q.val), h'⟩) := by
  blk_point [iblk, V, idx t]

/-- of the taps' -/
theorem in2 (c : Dev nD) (t : Fin cfg0.N) (r : Fin 31) (q : Fin 256) (h) :
    iblk m c 2 t (ix2 r q) = m ((c : Thread nD τ).loc main_arg1) (ix2 r ⟨256 * (t.val % 8) + q.val, h⟩) := by
  blk_point [iblk, V, idx t]

/-- and of the biases'. -/
theorem in3 (c : Dev nD) (t : Fin cfg0.N) (q : Fin 256) (h) :
    iblk m c 3 t (ix2 0 q) = m ((c : Thread nD τ).loc main_arg2) (ix1 ⟨256 * (t.val % 8) + q.val, h⟩) := by
  blk_point [iblk, V, idx t]

/-- The place of the result where a block's entry lands. -/
theorem out4 (t : Fin cfg0.N) (y0 : Fin 1) (y1 : Fin 4096) (y2 : Fin 256) (h h') :
    ((cfg0.win 4).blk t).view.emb (ix3 y0 y1 y2) = ix3 ⟨t.val / 8, h⟩ y1 ⟨256 * (t.val % 8) + y2.val, h'⟩ := by
  blk_ext!
  all_goals rw [(idx t).2.2.2.2]; simp; try omega

/-- The rows a tap reads of the padded block are a row of the padded image. -/
theorem tap (c : Dev nD) (t : Fin cfg0.N) (j k w : ℕ) (hj : j < 31) (hk : k < 64) (hw : w < 64) (q : Fin 256) (h h') :
    at2 (padded (iblk m c 0 t) (iblk m c 1 t)) (64 * k + 64 * j + w) q.val
      = img (m ((c : Thread nD τ).loc main_arg0)) ⟨t.val / 8, h⟩ ⟨256 * (t.val % 8) + q.val, h'⟩ (j + k) w := by
  rw [at2, dif_pos ⟨by omega, q.isLt⟩, padded_ix2]
  unfold img
  by_cases p : 15 ≤ j + k ∧ j + k - 15 < 64
  · have p' : 960 ≤ 64 * k + 64 * j + w ∧ 64 * k + 64 * j + w < 5056 := by omega
    have e : ∀ h1 h2, (⟨64 * k + 64 * j + w - 960, h1⟩ : Fin 4096) = ⟨(j + k - 15) * 64 + w, h2⟩ := fun _ _ =>
      Fin.ext (by show 64 * k + 64 * j + w - 960 = (j + k - 15) * 64 + w; omega)
    rw [dif_pos p', dif_pos ⟨p, hw⟩]
    refine congrArg₂ (fun a b : EReal => a * Ideal.div 1 (1 + Ideal.exp (-b))) ?_ ?_
    · refine (in0 m c t _ q h (by omega)).trans ?_
      rw [e _ (by omega)]
    · refine (in1 m c t _ q h (by omega)).trans ?_
      rw [e _ (by omega)]
  · have p' : ¬(960 ≤ 64 * k + 64 * j + w ∧ 64 * k + 64 * j + w < 5056) := by omega
    rw [dif_neg p', dif_neg fun x => p x.1]

/-- At a grid point, an entry of the written block is the convolution's entry at the place of the result where it lands. -/
theorem point (c : Dev nD) (t : Fin cfg0.N) (y) :
    outsAt0 m c t y = conv (m ((c : Thread nD τ).loc main_arg0)) (m ((c : Thread nD τ).loc main_arg1))
      (m ((c : Thread nD τ).loc main_arg2)) (((cfg0.win 4).blk t).view.emb y) := by
  rw [outs]
  have ht : t.val < 16 := t.isLt
  change S1x4096x256.Idx at y
  idx_vars y
  have h1 := y1.isLt
  have h2 := y2.isLt
  rw [out4 t y0 y1 y2 (by omega) (by omega)]
  show at2 (iblk m c 3 t) 0 y2.val + ∑ j ∈ Finset.range 31,
      at2 (padded (iblk m c 0 t) (iblk m c 1 t)) (64 * (y1.val / 64) + 64 * j + y1.val % 64) y2.val * at2 (iblk m c 2 t) j y2.val
    = ∑ j ∈ Finset.range 31, img (m ((c : Thread nD τ).loc main_arg0)) ⟨t.val / 8, _⟩ ⟨256 * (t.val % 8) + y2.val, _⟩
        (j + y1.val / 64) (y1.val % 64) * at2 (m ((c : Thread nD τ).loc main_arg1)) j (256 * (t.val % 8) + y2.val)
      + m ((c : Thread nD τ).loc main_arg2) (ix1 ⟨256 * (t.val % 8) + y2.val, _⟩)
  rw [add_comm]
  refine congrArg₂ (fun a b : EReal => a + b) (Finset.sum_congr rfl fun j hj => ?_) ?_
  · have hj := Finset.mem_range.1 hj
    refine congrArg₂ (fun a b : EReal => a * b) (tap m c t j _ _ hj (by omega) (by omega) y2 _ _) ?_
    rw [at2, at2, dif_pos ⟨hj, h2⟩, dif_pos ⟨hj, by omega⟩]
    exact in2 m c t ⟨j, hj⟩ y2 _
  · rw [at2, dif_pos ⟨by omega, h2⟩]
    exact in3 m c t y2 _

/-- The result is the convolution of the arguments. -/
theorem final (c : Dev nD) : (dats m 0 c).arrAt 4 cfg0.N = conv (m ((c : Thread nD τ).loc main_arg0))
    (m ((c : Thread nD τ).loc main_arg1)) (m ((c : Thread nD τ).loc main_arg2)) := by
  refine (dats m 0 c).arrAt_eq_of_covers 4 _ (by decide +kernel) fun t _ y => ?_
  blk_simp
  rw [after0_4]
  exact point m c t y

end Cert.Kernel5Ideal.ConvCol

namespace Cert.Proof.ConvCol

/-- The kernel and the reference end with the same result. -/
theorem algebraic : Cert.algebraic_Kernel5Ideal_Reference5Ideal := by
  intro m ρ m' ρ' _ hagree
  refine ⟨fun c => Cert.ConvCol.conv (m (c.tc.loc Cert.Kernel5Ideal.main_arg0)) (m (c.tc.loc Cert.Kernel5Ideal.main_arg1)) (m (c.tc.loc Cert.Kernel5Ideal.main_arg2)), ?_, ?_⟩
  · exact (θ_run Cert.Kernel5Ideal.defs _ _).mono
      (fun _ h c => ⟨(h c).1.trans (Cert.Kernel5Ideal.ConvCol.final m c), (h c).2⟩)
      (Cert.Kernel5Ideal.Value.run_blocks m ρ)
  · refine (θ_run Cert.Reference5Ideal.defs _ _).mono (fun _ h c => ⟨(h c).1.trans ?_, (h c).2⟩)
      (Cert.Reference5Ideal.Value.run (F := Ideal) m' ρ')
    refine (Cert.ConvCol.reference _).trans ?_
    show Cert.ConvCol.conv (m' (c.tc.loc Cert.Reference5Ideal.main_arg0)) (m' (c.tc.loc Cert.Reference5Ideal.main_arg1))
      (m' (c.tc.loc Cert.Reference5Ideal.main_arg2)) = _
    rw [(hagree c).1, (hagree c).2.1, (hagree c).2.2]

end Cert.Proof.ConvCol

end
-- ==== Proof.HgPost.lean ====
/-
  After the recurrence (`_hg_post`): the sum of the two directions, each head's 128 entries divided by the root of their mean square,
  times the gain and the gate's SiLU. A grid point stores its block as sixteen tiles, one a head; all sixteen are the same arithmetic
  of the tile's loads, so one lemma about a tile serves them all.
-/
module

public import proofs.«01_k».proof.Defs
public import proofs.«01_k».proof.Proof.Gen.Kernel6Ideal.Value
public import proofs.«01_k».proof.Proof.Gen.Reference6Ideal.Run
public import proofs.«01_k».proof.Proof.Sigmoid
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.HgPost

open Cert.Kernel6Ideal Cert.Kernel6Ideal.Gen

variable (m : (ℓ : Loc nD τ sig) → Buf (Elt Ideal) ℓ)

/-- The sum of the two directions, by head. -/
abbrev heads (a0 a1 : FVec Ideal Reference6Ideal.S2x4096x2048 .f32) : FVec Ideal Reference6Ideal.S2x4096x16x128 .f32 :=
  shapeCast _ (addf a0 a1) Reference6Ideal.Gen.shapeCasts_S2x4096x2048_S2x4096x16x128

/-- The gate's columns of the projection. -/
abbrev gate (a2 : FVec Ideal Reference6Ideal.S2x4096x24576 .f32) : FVec Ideal Reference6Ideal.S2x4096x2048 .f32 :=
  extractStridedSlice Reference6Ideal.S2x4096x2048 ![0, 0, 8192] a2 Reference6Ideal.Gen.slices_S2x4096x24576_S2x4096x2048_0_0_8192

/-- The reference's own term, over the arguments. -/
abbrev ref (a0 : FVec Ideal Reference6Ideal.S2x4096x2048 .f32) (a1 : FVec Ideal Reference6Ideal.S2x4096x2048 .f32) (a2 : FVec Ideal Reference6Ideal.S2x4096x24576 .f32) (a3 : FVec Ideal Reference6Ideal.S128 .f32) :
    FVec Ideal Reference6Ideal.S2x4096x2048 .bf16 :=
  truncf .bf16
    (mulf
      (shapeCast _
        (mulf
          (mulf (heads a0 a1)
            (broadcastInDim Reference6Ideal.S2x4096x16x128 ![0, 1, 2, 3] Reference6Ideal.Gen.bcast_S2x4096x16x1_S2x4096x16x128_0_1_2_3
              (Host.rsqrt
                (addf
                  (Host.divf
                    (broadcastInDim Reference6Ideal.S2x4096x16x1 ![0, 1, 2] Reference6Ideal.Gen.bcast_S2x4096x16_S2x4096x16x1_0_1_2
                      (Host.reduceAdd (mulf (heads a0 a1) (heads a0 a1)) (constant Reference6Ideal.S_ .f32 0x00000000#32)
                        Reference6Ideal.Gen.reducesTo_S2x4096x16x128_S2x4096x16_d3 Reference6Ideal.Gen.h_S_))
                    (broadcastInDim Reference6Ideal.S2x4096x16x1 ![] Reference6Ideal.Gen.bcast_S_S2x4096x16x1
                      (constant Reference6Ideal.S_ .f32 0x43000000#32)))
                  (broadcastInDim Reference6Ideal.S2x4096x16x1 ![] Reference6Ideal.Gen.bcast_S_S2x4096x16x1
                    (constant Reference6Ideal.S_ .f32 0x358637BD#32))))))
          (broadcastInDim Reference6Ideal.S2x4096x16x128 ![0, 1, 2, 3] Reference6Ideal.Gen.bcast_S1x1x1x128_S2x4096x16x128_0_1_2_3
            (broadcastInDim Reference6Ideal.S1x1x1x128 ![3] Reference6Ideal.Gen.bcast_S128_S1x1x1x128_3 a3)))
        Reference6Ideal.Gen.shapeCasts_S2x4096x16x128_S2x4096x2048)
      (mulf (gate a2)
        (Host.divf
          (broadcastInDim Reference6Ideal.S2x4096x2048 ![] Reference6Ideal.Gen.bcast_S_S2x4096x2048
            (constant Reference6Ideal.S_ .f32 0x3F800000#32))
          (addf
            (broadcastInDim Reference6Ideal.S2x4096x2048 ![] Reference6Ideal.Gen.bcast_S_S2x4096x2048
              (constant Reference6Ideal.S_ .f32 0x3F800000#32))
            (Host.exp (Host.negf (gate a2)))))))
    Reference6Ideal.Gen.bitsLt_bf16_f32

/-- Each window's block index at grid point `t`. -/
theorem idx : ∀ t : Fin cfg0.N, win0_0.index t = ![t.val / 16, t.val % 16, 0] ∧ win0_1.index t = ![t.val / 16, t.val % 16, 0] ∧ win0_2.index t = ![t.val / 16, t.val % 16, 4] ∧ win0_3.index t = ![0, 0] ∧ win0_4.index t = ![t.val / 16, t.val % 16, 0] :=
  (by decide +kernel : ∀ t : Fin grid0.N, _)

/-- A head's tile: if the three loads are the 128 columns of head `h` of the point's blocks, the stored tile is the reference's
values at the places where it lands. -/
theorem tile (c : Dev nD) (t : Fin cfg0.N) (h : Fin 16) (X0 X1 X2 : Vec Ideal S1x256x128 .f32)
    (X3 : Vec Ideal S1x128 .f32)
    (e0 : ∀ (i : S1x256x128.Idx) (j : S1x256x2048.Idx), (j 1).val = (i 1).val → (j 2).val = h.val * 128 + (i 2).val →
      X0 i = iblk m c 0 t j)
    (e1 : ∀ (i : S1x256x128.Idx) (j : S1x256x2048.Idx), (j 1).val = (i 1).val → (j 2).val = h.val * 128 + (i 2).val →
      X1 i = iblk m c 1 t j)
    (e2 : ∀ (i : S1x256x128.Idx) (j : S1x256x2048.Idx), (j 1).val = (i 1).val → (j 2).val = h.val * 128 + (i 2).val →
      X2 i = iblk m c 2 t j)
    (e3 : ∀ i, X3 i = iblk m c 3 t i)
    (x : S1x256x128.Idx) (y : S1x256x2048.Idx) (y1 : (y 1).val = (x 1).val) (y2 : (y 2).val = h.val * 128 + (x 2).val) :
    k0_pay2 X0 X1 X3 X2 x = ref (m ((c : Thread nD τ).loc main_arg0)) (m ((c : Thread nD τ).loc main_arg1)) (m ((c : Thread nD τ).loc main_arg2)) (m ((c : Thread nD τ).loc main_arg3)) (((cfg0.win 4).blk t).view.emb y) := by
  have b : ∀ i : S1x256x128.Idx, h.val * 128 + (i 2).val < 2048 := fun i => by
    have : (i 2).val < 128 := (i 2).isLt
    omega
  have f0 : ∀ i, X0 i = iblk m c 0 t (ix3 0 (i 1) ⟨_, b i⟩) := fun i => e0 i _ rfl rfl
  have f1 : ∀ i, X1 i = iblk m c 1 t (ix3 0 (i 1) ⟨_, b i⟩) := fun i => e1 i _ rfl rfl
  have f2 : ∀ i, X2 i = iblk m c 2 t (ix3 0 (i 1) ⟨_, b i⟩) := fun i => e2 i _ rfl rfl
  clear e0 e1 e2
  pointwise [k0_pay2, ref, heads, gate]
  simp only [Sigmoid.eq, f0, f1, f2, e3]

  have hi := idx t
  blk_point [iblk, V, hi]

set_option maxHeartbeats 2000000 in
/-- At a grid point, an entry of the written block is the reference's entry at the place of the result where it lands. -/
theorem point (c : Dev nD) (t : Fin cfg0.N) (y) :
    out0_4 (iblk m c 0 t) (iblk m c 1 t) (iblk m c 2 t) (iblk m c 3 t) y
      = ref (m ((c : Thread nD τ).loc main_arg0)) (m ((c : Thread nD τ).loc main_arg1)) (m ((c : Thread nD τ).loc main_arg2)) (m ((c : Thread nD τ).loc main_arg3)) (((cfg0.win 4).blk t).view.emb y) := by
  canon_tiles x h
  all_goals
    refine tile m c t ⟨(y 2).val / 128, by omega⟩ _ _ _ _ ?_ ?_ ?_ ?_ x y h1 ?_
    · intro i j j1 j2; dsimp only at j2; pointwise; blk_ext
    · intro i j j1 j2; dsimp only at j2; pointwise; blk_ext
    · intro i j j1 j2; dsimp only at j2; pointwise; blk_ext
    · intro i; pointwise; blk_ext
    · dsimp only; omega

/-- The result is the reference's term of the arguments. -/
theorem final (c : Dev nD) : (dats m 0 c).arrAt 4 cfg0.N = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.Kernel6Ideal.HgPost

namespace Cert.Proof.HgPost

/-- The kernel and the reference end with the same result. -/
theorem algebraic : Cert.algebraic_Kernel6Ideal_Reference6Ideal := by
  intro m ρ m' ρ' _ hagree
  refine ⟨fun c => Cert.Kernel6Ideal.HgPost.ref (m (c.tc.loc Cert.Kernel6Ideal.main_arg0)) (m (c.tc.loc Cert.Kernel6Ideal.main_arg1)) (m (c.tc.loc Cert.Kernel6Ideal.main_arg2)) (m (c.tc.loc Cert.Kernel6Ideal.main_arg3)), ?_, ?_⟩
  · exact (θ_run Cert.Kernel6Ideal.defs _ _).mono
      (fun _ h c => ⟨(h c).1.trans (Cert.Kernel6Ideal.HgPost.final m c), (h c).2⟩)
      (Cert.Kernel6Ideal.Value.run_blocks m ρ)
  · refine (θ_run Cert.Reference6Ideal.defs _ _).mono (fun _ h c => ⟨(h c).1.trans ?_, (h c).2⟩)
      (Cert.Reference6Ideal.Value.run (F := Ideal) m' ρ')
    rw [(hagree c).1, (hagree c).2.1, (hagree c).2.2.1, (hagree c).2.2.2]

end Cert.Proof.HgPost

end
-- ==== Proof.Prenorm.lean ====
/-
  The normalisation before the layer (`_prenorm`): each row divided by the root of its mean square, times the gain, then scaled by
  one plus the request's scale and moved by its shift.
-/
module

public import proofs.«01_k».proof.Defs
public import proofs.«01_k».proof.Proof.Gen.Kernel7Ideal.Value
public import proofs.«01_k».proof.Proof.Gen.Reference7Ideal.Run
public import proofs.«01_k».proof.Proof.Sigmoid
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel7Ideal.Prenorm

open Cert.Kernel7Ideal Cert.Kernel7Ideal.Gen

variable (m : (ℓ : Loc nD τ sig) → Buf (Elt Ideal) ℓ)

/-- The reference's own term, over the arguments. -/
abbrev ref (a0 : FVec Ideal Reference7Ideal.S4x4096x4096 .f32) (a1 : FVec Ideal Reference7Ideal.S4096 .f32) (a2 : FVec Ideal Reference7Ideal.S8x1x12288 .f32) :
    FVec Ideal Reference7Ideal.S2x4096x4096 .bf16 :=
  truncf .bf16 (addf (mulf (mulf (mulf (extractStridedSlice Reference7Ideal.S2x4096x4096 ![0, 0, 0] a0 Reference7Ideal.Gen.slices_S4x4096x4096_S2x4096x4096_0_0_0) (broadcastInDim Reference7Ideal.S2x4096x4096 ![0, 1, 2] Reference7Ideal.Gen.bcast_S2x4096x1_S2x4096x4096_0_1_2 (Host.rsqrt (addf (Host.divf (broadcastInDim Reference7Ideal.S2x4096x1 ![0, 1] Reference7Ideal.Gen.bcast_S2x4096_S2x4096x1_0_1 (Host.reduceAdd (mulf (extractStridedSlice Reference7Ideal.S2x4096x4096 ![0, 0, 0] a0 Reference7Ideal.Gen.slices_S4x4096x4096_S2x4096x4096_0_0_0) (extractStridedSlice Reference7Ideal.S2x4096x4096 ![0, 0, 0] a0 Reference7Ideal.Gen.slices_S4x4096x4096_S2x4096x4096_0_0_0)) (constant Reference7Ideal.S_ .f32 0x00000000#32) Reference7Ideal.Gen.reducesTo_S2x4096x4096_S2x4096_d2 Reference7Ideal.Gen.h_S_)) (broadcastInDim Reference7Ideal.S2x4096x1 ![] Reference7Ideal.Gen.bcast_S_S2x4096x1 (constant Reference7Ideal.S_ .f32 0x45800000#32))) (broadcastInDim Reference7Ideal.S2x4096x1 ![] Reference7Ideal.Gen.bcast_S_S2x4096x1 (constant Reference7Ideal.S_ .f32 0x358637BD#32)))))) (broadcastInDim Reference7Ideal.S2x4096x4096 ![0, 1, 2] Reference7Ideal.Gen.bcast_S1x1x4096_S2x4096x4096_0_1_2 (broadcastInDim Reference7Ideal.S1x1x4096 ![2] Reference7Ideal.Gen.bcast_S4096_S1x1x4096_2 a1))) (broadcastInDim Reference7Ideal.S2x4096x4096 ![0, 1, 2] Reference7Ideal.Gen.bcast_S2x1x4096_S2x4096x4096_0_1_2 (addf (broadcastInDim Reference7Ideal.S2x1x4096 ![] Reference7Ideal.Gen.bcast_S_S2x1x4096 (constant Reference7Ideal.S_ .f32 0x3F800000#32)) (broadcastInDim Reference7Ideal.S2x1x4096 ![0, 2] Reference7Ideal.Gen.bcast_S2x4096_S2x1x4096_0_2 (extractStridedSlice Reference7Ideal.S2x4096 ![0, 4096] (shapeCast _ (extractStridedSlice Reference7Ideal.S2x1x12288 ![1, 0, 0] a2 Reference7Ideal.Gen.slices_S8x1x12288_S2x1x12288_1_0_0) Reference7Ideal.Gen.shapeCasts_S2x1x12288_S2x12288) Reference7Ideal.Gen.slices_S2x12288_S2x4096_0_4096))))) (broadcastInDim Reference7Ideal.S2x4096x4096 ![0, 1, 2] Reference7Ideal.Gen.bcast_S2x1x4096_S2x4096x4096_0_1_2 (broadcastInDim Reference7Ideal.S2x1x4096 ![0, 2] Reference7Ideal.Gen.bcast_S2x4096_S2x1x4096_0_2 (extractStridedSlice Reference7Ideal.S2x4096 ![0, 0] (shapeCast _ (extractStridedSlice Reference7Ideal.S2x1x12288 ![1, 0, 0] a2 Reference7Ideal.Gen.slices_S8x1x12288_S2x1x12288_1_0_0) Reference7Ideal.Gen.shapeCasts_S2x1x12288_S2x12288) Reference7Ideal.Gen.slices_S2x12288_S2x4096_0_0)))) Reference7Ideal.Gen.bitsLt_bf16_f32

/-- Each window's block index at grid point `t`. -/
theorem idx : ∀ t : Fin cfg0.N, win0_0.index t = ![t.val / 16, t.val % 16, 0] ∧ win0_1.index t = ![0, 0] ∧ win0_2.index t = ![1 + t.val / 16, 0, 0] ∧ win0_3.index t = ![t.val / 16, t.val % 16, 0] :=
  (by decide +kernel : ∀ t : Fin grid0.N, _)

/-- At a grid point, an entry of the written block is the reference's entry at the place of the result where it lands. -/
theorem point (c : Dev nD) (t : Fin cfg0.N) (y) :
    k0_pay1 (iblk m c 0 t) (iblk m c 1 t) (View.ld (iblk m c 2 t) r0_2) (View.ld (iblk m c 2 t) r0_3) y
      = ref (m ((c : Thread nD τ).loc main_arg0)) (m ((c : Thread nD τ).loc main_arg1)) (m ((c : Thread nD τ).loc main_arg2)) (((cfg0.win 3).blk t).view.emb y) := by
  pointwise [k0_pay1, ref]
  blk_point [iblk, V, idx t]

/-- The result is the reference's term of the arguments. -/
theorem final (c : Dev nD) : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.Kernel7Ideal.Prenorm

namespace Cert.Proof.Prenorm

/-- The kernel and the reference end with the same result. -/
theorem algebraic : Cert.algebraic_Kernel7Ideal_Reference7Ideal := by
  intro m ρ m' ρ' _ hagree
  refine ⟨fun c => Cert.Kernel7Ideal.Prenorm.ref (m (c.tc.loc Cert.Kernel7Ideal.main_arg0)) (m (c.tc.loc Cert.Kernel7Ideal.main_arg1)) (m (c.tc.loc Cert.Kernel7Ideal.main_arg2)), ?_, ?_⟩
  · exact (θ_run Cert.Kernel7Ideal.defs _ _).mono
      (fun _ h c => ⟨(h c).1.trans (Cert.Kernel7Ideal.Prenorm.final m c), (h c).2⟩)
      (Cert.Kernel7Ideal.Value.run_blocks m ρ)
  · refine (θ_run Cert.Reference7Ideal.defs _ _).mono (fun _ h c => ⟨(h c).1.trans ?_, (h c).2⟩)
      (Cert.Reference7Ideal.Value.run (F := Ideal) m' ρ')
    rw [(hagree c).1, (hagree c).2.1, (hagree c).2.2]

end Cert.Proof.Prenorm

end
-- ==== Proof.Modulation.lean ====
/-
  The adaptive normalisation's parameters (`_adaln_mod`): for each layer, the SiLU of the time embedding times the layer's weight
  plus its bias, 512 columns a grid point. The reference's product has its two factors in the other order.
-/
module

public import proofs.«01_k».proof.Defs
public import proofs.«01_k».proof.Proof.Gen.Kernel8Ideal.Value
public import proofs.«01_k».proof.Proof.Gen.Reference8Ideal.Run
public import proofs.«01_k».proof.Proof.Sigmoid
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel8Ideal.Modulation

open Cert.Kernel8Ideal Cert.Kernel8Ideal.Gen

variable (m : (ℓ : Loc nD τ sig) → Buf (Elt Ideal) ℓ)

/-- The reference's own term, over the arguments. -/
abbrev ref (a0 : FVec Ideal Reference8Ideal.S8x4096 .f32) (a1 : FVec Ideal Reference8Ideal.S4x4096x12288 .f32) (a2 : FVec Ideal Reference8Ideal.S4x12288 .f32) :
    FVec Ideal Reference8Ideal.S4x8x12288 .f32 :=
  addf (transpose Reference8Ideal.S4x8x12288 [0, 2, 1] (Host.dotGeneral Reference8Ideal.dot_S4x4096x12288_S8x4096_S4x12288x8_1_1_02_0_n_n none a1 (mulf a0 (Host.divf (broadcastInDim Reference8Ideal.S8x4096 ![] Reference8Ideal.Gen.bcast_S_S8x4096 (constant Reference8Ideal.S_ .f32 0x3F800000#32)) (addf (broadcastInDim Reference8Ideal.S8x4096 ![] Reference8Ideal.Gen.bcast_S_S8x4096 (constant Reference8Ideal.S_ .f32 0x3F800000#32)) (Host.exp (Host.negf a0)))))) Reference8Ideal.Gen.transposes_S4x12288x8_S4x8x12288_0_2_1) (broadcastInDim Reference8Ideal.S4x8x12288 ![0, 1, 2] Reference8Ideal.Gen.bcast_S4x1x12288_S4x8x12288_0_1_2 (broadcastInDim Reference8Ideal.S4x1x12288 ![0, 2] Reference8Ideal.Gen.bcast_S4x12288_S4x1x12288_0_2 a2))

/-- Each window's block index at grid point `t`. -/
theorem idx : ∀ t : Fin cfg0.N, win0_0.index t = ![0, 0] ∧ win0_1.index t = ![t.val / 24, 0, t.val % 24] ∧ win0_2.index t = ![t.val / 24, 0, t.val % 24] ∧ win0_3.index t = ![t.val / 24, 0, t.val % 24] :=
  (by decide +kernel : ∀ t : Fin grid0.N, _)

/-- At a grid point, an entry of the written block is the reference's entry at the place of the result where it lands. -/
theorem point (c : Dev nD) (t : Fin cfg0.N) (y) :
    k0_pay1 (iblk m c 0 t) (iblk m c 1 t) (iblk m c 2 t) y
      = ref (m ((c : Thread nD τ).loc main_arg0)) (m ((c : Thread nD τ).loc main_arg1)) (m ((c : Thread nD τ).loc main_arg2)) (((cfg0.win 3).blk t).view.emb y) := by
  pointwise [k0_pay1, ref]
  simp only [Sigmoid.eq, mul_comm (_ * Ideal.div _ _)]
  blk_point [iblk, V, idx t]

/-- The result is the reference's term of the arguments. -/
theorem final (c : Dev nD) : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.Kernel8Ideal.Modulation

namespace Cert.Proof.Modulation

/-- The kernel and the reference end with the same result. -/
theorem algebraic : Cert.algebraic_Kernel8Ideal_Reference8Ideal := by
  intro m ρ m' ρ' _ hagree
  refine ⟨fun c => Cert.Kernel8Ideal.Modulation.ref (m (c.tc.loc Cert.Kernel8Ideal.main_arg0)) (m (c.tc.loc Cert.Kernel8Ideal.main_arg1)) (m (c.tc.loc Cert.Kernel8Ideal.main_arg2)), ?_, ?_⟩
  · exact (θ_run Cert.Kernel8Ideal.defs _ _).mono
      (fun _ h c => ⟨(h c).1.trans (Cert.Kernel8Ideal.Modulation.final m c), (h c).2⟩)
      (Cert.Kernel8Ideal.Value.run_blocks m ρ)
  · refine (θ_run Cert.Reference8Ideal.defs _ _).mono (fun _ h c => ⟨(h c).1.trans ?_, (h c).2⟩)
      (Cert.Reference8Ideal.Value.run (F := Ideal) m' ρ')
    rw [(hagree c).1, (hagree c).2.1, (hagree c).2.2]

end Cert.Proof.Modulation

end
-- ==== Proof.FinalNorm.lean ====
/-
  The final normalisation of the prompt's rows (`_final_norm`): each row divided by the root of its mean square, times the gain.
-/
module

public import proofs.«01_k».proof.Defs
public import proofs.«01_k».proof.Proof.Gen.Kernel9Ideal.Value
public import proofs.«01_k».proof.Proof.Gen.Reference9Ideal.Run
public import proofs.«01_k».proof.Proof.Sigmoid
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel9Ideal.FinalNorm

open Cert.Kernel9Ideal Cert.Kernel9Ideal.Gen

variable (m : (ℓ : Loc nD τ sig) → Buf (Elt Ideal) ℓ)

/-- The reference's own term, over the arguments. -/
abbrev ref (a0 : FVec Ideal Reference9Ideal.S16x256x4096 .f32) (a1 : FVec Ideal Reference9Ideal.S4096 .f32) :
    FVec Ideal Reference9Ideal.S16x256x4096 .f32 :=
  mulf (mulf a0 (broadcastInDim Reference9Ideal.S16x256x4096 ![0, 1, 2] Reference9Ideal.Gen.bcast_S16x256x1_S16x256x4096_0_1_2 (Host.rsqrt (addf (Host.divf (broadcastInDim Reference9Ideal.S16x256x1 ![0, 1] Reference9Ideal.Gen.bcast_S16x256_S16x256x1_0_1 (Host.reduceAdd (mulf a0 a0) (constant Reference9Ideal.S_ .f32 0x00000000#32) Reference9Ideal.Gen.reducesTo_S16x256x4096_S16x256_d2 Reference9Ideal.Gen.h_S_)) (broadcastInDim Reference9Ideal.S16x256x1 ![] Reference9Ideal.Gen.bcast_S_S16x256x1 (constant Reference9Ideal.S_ .f32 0x45800000#32))) (broadcastInDim Reference9Ideal.S16x256x1 ![] Reference9Ideal.Gen.bcast_S_S16x256x1 (constant Reference9Ideal.S_ .f32 0x358637BD#32)))))) (broadcastInDim Reference9Ideal.S16x256x4096 ![0, 1, 2] Reference9Ideal.Gen.bcast_S1x1x4096_S16x256x4096_0_1_2 (broadcastInDim Reference9Ideal.S1x1x4096 ![2] Reference9Ideal.Gen.bcast_S4096_S1x1x4096_2 a1))

/-- Each window's block index at grid point `t`. -/
theorem idx : ∀ t : Fin cfg0.N, win0_0.index t = ![t.val, 0, 0] ∧ win0_1.index t = ![0, 0] ∧ win0_2.index t = ![t.val, 0, 0] :=
  (by decide +kernel : ∀ t : Fin grid0.N, _)

/-- At a grid point, an entry of the written block is the reference's entry at the place of the result where it lands. -/
theorem point (c : Dev nD) (t : Fin cfg0.N) (y) :
    k0_pay1 (iblk m c 0 t) (iblk m c 1 t) y
      = ref (m ((c : Thread nD τ).loc main_arg0)) (m ((c : Thread nD τ).loc main_arg1)) (((cfg0.win 2).blk t).view.emb y) := by
  pointwise [k0_pay1, ref]; blk_point [iblk, V, idx t]

/-- The result is the reference's term of the arguments. -/
theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel9Ideal.FinalNorm

namespace Cert.Proof.FinalNorm

/-- The kernel and the reference end with the same result. -/
theorem algebraic : Cert.algebraic_Kernel9Ideal_Reference9Ideal := by
  intro m ρ m' ρ' _ hagree
  refine ⟨fun c => Cert.Kernel9Ideal.FinalNorm.ref (m (c.tc.loc Cert.Kernel9Ideal.main_arg0)) (m (c.tc.loc Cert.Kernel9Ideal.main_arg1)), ?_, ?_⟩
  · exact (θ_run Cert.Kernel9Ideal.defs _ _).mono
      (fun _ h c => ⟨(h c).1.trans (Cert.Kernel9Ideal.FinalNorm.final m c), (h c).2⟩)
      (Cert.Kernel9Ideal.Value.run_blocks m ρ)
  · refine (θ_run Cert.Reference9Ideal.defs _ _).mono (fun _ h c => ⟨(h c).1.trans ?_, (h c).2⟩)
      (Cert.Reference9Ideal.Value.run (F := Ideal) m' ρ')
    rw [(hagree c).1, (hagree c).2]

end Cert.Proof.FinalNorm

end
-- ==== Proof.FinalNormPair.lean ====
/-
  The final normalisation of the two pairs of sample requests (`_final_norm_pair`), written into one array of four requests: each
  row divided by the root of its mean square, times the gain. The first 32 grid points read the first pair, the last 32 the second.
-/
module

public import proofs.«01_k».proof.Defs
public import proofs.«01_k».proof.Proof.Gen.Kernel10Ideal.Value
public import proofs.«01_k».proof.Proof.Gen.Reference10Ideal.Run
public import proofs.«01_k».proof.Proof.Sigmoid
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel10Ideal.FinalNormPair

open Cert.Kernel10Ideal Cert.Kernel10Ideal.Gen

variable (m : (ℓ : Loc nD τ sig) → Buf (Elt Ideal) ℓ)

/-- The two pairs laid one after the other. -/
abbrev both (a0 a1 : FVec Ideal Reference10Ideal.S2x4096x4096 .f32) : FVec Ideal Reference10Ideal.S4x4096x4096 .f32 :=
  concatenate Reference10Ideal.S4x4096x4096 0 [⟨Reference10Ideal.S2x4096x4096, a0⟩, ⟨Reference10Ideal.S2x4096x4096, a1⟩]
    Reference10Ideal.Gen.concatenates_S2x4096x4096_S2x4096x4096_S4x4096x4096_d0

/-- The reference's own term, over the arguments. -/
abbrev ref (a0 : FVec Ideal Reference10Ideal.S2x4096x4096 .f32) (a1 : FVec Ideal Reference10Ideal.S2x4096x4096 .f32) (a2 : FVec Ideal Reference10Ideal.S4096 .f32) :
    FVec Ideal Reference10Ideal.S4x4096x4096 .f32 :=
  mulf
    (mulf (both a0 a1)
      (broadcastInDim Reference10Ideal.S4x4096x4096 ![0, 1, 2] Reference10Ideal.Gen.bcast_S4x4096x1_S4x4096x4096_0_1_2
        (Host.rsqrt
          (addf
            (Host.divf
              (broadcastInDim Reference10Ideal.S4x4096x1 ![0, 1] Reference10Ideal.Gen.bcast_S4x4096_S4x4096x1_0_1
                (Host.reduceAdd (mulf (both a0 a1) (both a0 a1)) (constant Reference10Ideal.S_ .f32 0x00000000#32)
                  Reference10Ideal.Gen.reducesTo_S4x4096x4096_S4x4096_d2 Reference10Ideal.Gen.h_S_))
              (broadcastInDim Reference10Ideal.S4x4096x1 ![] Reference10Ideal.Gen.bcast_S_S4x4096x1
                (constant Reference10Ideal.S_ .f32 0x45800000#32)))
            (broadcastInDim Reference10Ideal.S4x4096x1 ![] Reference10Ideal.Gen.bcast_S_S4x4096x1
              (constant Reference10Ideal.S_ .f32 0x358637BD#32))))))
    (broadcastInDim Reference10Ideal.S4x4096x4096 ![0, 1, 2] Reference10Ideal.Gen.bcast_S1x1x4096_S4x4096x4096_0_1_2
      (broadcastInDim Reference10Ideal.S1x1x4096 ![2] Reference10Ideal.Gen.bcast_S4096_S1x1x4096_2 a2))

/-- The windows' block indices at the grid points of the first pair. -/
theorem idxA : ∀ t : Fin cfg0.N, t.val < 32 →
    win0_0.index t = ![t.val / 16, t.val % 16, 0] ∧ win0_2.index t = ![0, 0] ∧ win0_3.index t = ![t.val / 16, t.val % 16, 0] :=
  (by decide +kernel : ∀ t : Fin grid0.N, _)

/-- The windows' block indices at the grid points of the second pair. -/
theorem idxB : ∀ t : Fin cfg0.N, 32 ≤ t.val →
    win0_1.index t = ![t.val / 16 - 2, t.val % 16, 0] ∧ win0_2.index t = ![0, 0] ∧ win0_3.index t = ![t.val / 16, t.val % 16, 0] :=
  (by decide +kernel : ∀ t : Fin grid0.N, _)

/-- At a grid point of the first pair, an entry of the written block is the reference's entry at the place where it lands. -/
theorem pointA (c : Dev nD) (t : Fin cfg0.N) (h : t.val < 32) (y) :
    k0_pay1 (iblk m c 0 t) (iblk m c 2 t) y = ref (m ((c : Thread nD τ).loc main_arg0)) (m ((c : Thread nD τ).loc main_arg1)) (m ((c : Thread nD τ).loc main_arg2)) (((cfg0.win 3).blk t).view.emb y) := by
  have hc : (((View.whole main_v1).slice ((win0 3).rect t)).emb y 0).val < 2 := by blk_simp [idxA t h]; omega
  pointwise [k0_pay1, ref]
  simp only [hc, dite_true]
  blk_point [iblk, V, idxA t h]

/-- At a grid point of the second pair, an entry of the written block is the reference's entry at the place where it lands. -/
theorem pointB (c : Dev nD) (t : Fin cfg0.N) (h : 32 ≤ t.val) (y) :
    k0_pay2 (iblk m c 1 t) (iblk m c 2 t) y = ref (m ((c : Thread nD τ).loc main_arg0)) (m ((c : Thread nD τ).loc main_arg1)) (m ((c : Thread nD τ).loc main_arg2)) (((cfg0.win 3).blk t).view.emb y) := by
  have hc : ¬(((View.whole main_v1).slice ((win0 3).rect t)).emb y 0).val < 2 := by blk_simp [idxB t h]; omega
  pointwise [k0_pay2, ref]
  simp only [hc, dite_false]
  blk_point [iblk, V, idxB t h]

/-- The result is the reference's term of the arguments. -/
theorem final (c : Dev nD) : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases h : t.val < 32
  · rw [outsAt0_A m c t h (by omega)]
    frame_out
    exact pointA m c t h y
  · rw [outsAt0_B m c t h (by omega)]
    frame_out
    exact pointB m c t (by omega) y

end Cert.Kernel10Ideal.FinalNormPair

namespace Cert.Proof.FinalNormPair

/-- The kernel and the reference end with the same result. -/
theorem algebraic : Cert.algebraic_Kernel10Ideal_Reference10Ideal := by
  intro m ρ m' ρ' _ hagree
  refine ⟨fun c => Cert.Kernel10Ideal.FinalNormPair.ref (m (c.tc.loc Cert.Kernel10Ideal.main_arg0)) (m (c.tc.loc Cert.Kernel10Ideal.main_arg1)) (m (c.tc.loc Cert.Kernel10Ideal.main_arg2)), ?_, ?_⟩
  · exact (θ_run Cert.Kernel10Ideal.defs _ _).mono
      (fun _ h c => ⟨(h c).1.trans (Cert.Kernel10Ideal.FinalNormPair.final m c), (h c).2⟩)
      (Cert.Kernel10Ideal.Value.run_blocks m ρ)
  · refine (θ_run Cert.Reference10Ideal.defs _ _).mono (fun _ h c => ⟨(h c).1.trans ?_, (h c).2⟩)
      (Cert.Reference10Ideal.Value.run (F := Ideal) m' ρ')
    rw [(hagree c).1, (hagree c).2.1, (hagree c).2.2]

end Cert.Proof.FinalNormPair

end
-- ==== Proof.LowerBoundsRef.lean ====
/-
  The lower bounds of the forget gates, as the reference computes them: the softmax of the logits over the four layers, its running
  sum over the layers less its first term, the logarithm of that to base 2 and one less it.
-/
module

public import proofs.«01_k».proof.Defs
public import proofs.«01_k».proof.Proof.Gen.Reference11Ideal.Run
public import Idealize.ShloMosaic.Lib.Pipeline.ValueKit

@[expose] public section

set_option maxRecDepth 16384

noncomputable section

open Idealize.ShloMosaic Idealize.ShloMosaic.TcCoe Idealize.SL.Sem

namespace Cert.LowerBounds

open Cert.Reference11Ideal Cert.Reference11Ideal.Gen Cert.Reference11Ideal.Value

/-- A running sum of four terms, less the first of them. -/
def lower (p : Fin 4 → EReal) (l : Fin 4) : EReal := (∑ k, if k ≤ l then p k else 0) - p 0

/-- The entry at place `n` of the window of four layers that ends at layer `l`; zero at the places before the first layer. -/
def win (x : S4x2x2048.Idx → EReal) (l : Fin 4) (a : Fin 2) (b : Fin 2048) (n : ℕ) : EReal :=
  if hn : 3 ≤ l.val + n ∧ l.val + n - 3 < 4 then x (ix3 ⟨l.val + n - 3, hn.2⟩ a b) else 0

/-- The host's running sum along the first axis: the window of four positions that ends at layer `l`, padded with the initial zero. -/
theorem cumsum (x : FVec Ideal S4x2x2048 .f32) (v : FVec Ideal S_ .f32) (hv : ∀ i, v i = 0) (h) (hu) (l : Fin 4) (a : Fin 2) (b : Fin 2048) :
    Host.reduceWindowAdd (t := S4x2x2048) ![4, 1, 1] ![1, 1, 1] ![3, 0, 0] ![0, 0, 0] x v h hu (ix3 l a b)
      = ∑ k, if k ≤ l then x (ix3 k a b) else 0 := by
  have w0 : ∀ n : Fin (Shape.numel ⟨3, ![4, 1, 1]⟩), ((Shape.rowMajor (s := ⟨3, ![4, 1, 1]⟩)).symm n 0).val = n.val := by decide
  have w1 : ∀ n : Fin (Shape.numel ⟨3, ![4, 1, 1]⟩), ((Shape.rowMajor (s := ⟨3, ![4, 1, 1]⟩)).symm n 1).val = 0 := by decide
  have w2 : ∀ n : Fin (Shape.numel ⟨3, ![4, 1, 1]⟩), ((Shape.rowMajor (s := ⟨3, ![4, 1, 1]⟩)).symm n 2).val = 0 := by decide
  change Host.reduceWindow (fun y z : EReal => y + z) ![4, 1, 1] ![1, 1, 1] ![3, 0, 0] ![0, 0, 0] x (fun _ : S_.Idx => v (Shape.Idx.first hu)) h hu (ix3 l a b) = _
  unfold Host.reduceWindow
  dsimp only
  refine (List.foldl_ext _ (fun (r : EReal) (n : Fin (Shape.numel ⟨3, ![4, 1, 1]⟩)) => r + win x l a b n.val) _
    (fun r n _ => congrArg (fun z : EReal => r + z) ?_)).trans ?_
  · have e0 : (((ix3 l a b : S4x2x2048.Idx) 0).val * 1 + ((Shape.rowMajor (s := ⟨3, ![4, 1, 1]⟩)).symm n 0).val) = l.val + n.val := by
      rw [w0]; simp
    have e1 : (((ix3 l a b : S4x2x2048.Idx) 1).val * 1 + ((Shape.rowMajor (s := ⟨3, ![4, 1, 1]⟩)).symm n 1).val) = a.val := by
      rw [w1]; simp
    have e2 : (((ix3 l a b : S4x2x2048.Idx) 2).val * 1 + ((Shape.rowMajor (s := ⟨3, ![4, 1, 1]⟩)).symm n 2).val) = b.val := by
      rw [w2]; simp
    split
    · next hin =>
      have h0 := hin 0
      change 3 ≤ (((ix3 l a b : S4x2x2048.Idx) 0).val * 1 + ((Shape.rowMajor (s := ⟨3, ![4, 1, 1]⟩)).symm n 0).val) ∧ (((ix3 l a b : S4x2x2048.Idx) 0).val * 1 + ((Shape.rowMajor (s := ⟨3, ![4, 1, 1]⟩)).symm n 0).val) - 3 < 4 at h0
      rw [e0] at h0
      rw [win, dif_pos h0]
      congr 1
      funext d
      refine Fin.ext ?_
      match d with
      | ⟨0, _⟩ => exact congrArg (· - 3) e0
      | ⟨1, _⟩ => exact e1
      | ⟨2, _⟩ => exact e2
    · next hin =>
      rw [win, dif_neg, hv]
      intro hn
      refine hin fun d => ?_
      match d with
      | ⟨0, _⟩ => exact (congrArg (fun z => 3 ≤ z ∧ z - 3 < 4) e0).mpr hn
      | ⟨1, _⟩ => exact ⟨Nat.zero_le _, (congrArg (· < 2) e1).mpr a.isLt⟩
      | ⟨2, _⟩ => exact ⟨Nat.zero_le _, (congrArg (· < 2048) e2).mpr b.isLt⟩
  · rw [hv, show List.finRange (Shape.numel ⟨3, ![4, 1, 1]⟩) = [⟨0, by decide⟩, ⟨1, by decide⟩, ⟨2, by decide⟩, ⟨3, by decide⟩] by decide]
    change (((0 + win x l a b 0) + win x l a b 1) + win x l a b 2) + win x l a b 3 = _
    fin_cases l <;> simp [win, Fin.sum_univ_four]

/-- The softmax of the logits over the layers: the reference's own term. -/
def soft (x : FVec Ideal S4x2x2048 .f32) : FVec Ideal S4x2x2048 .f32 :=
  Host.divf (Host.exp (subf x (broadcastInDim S4x2x2048 ![0, 1, 2] bcast_S1x2x2048_S4x2x2048_0_1_2 (broadcastInDim S1x2x2048 ![1, 2] bcast_S2x2048_S1x2x2048_1_2 (maximumf (broadcastInDim S2x2048 ![] bcast_S_S2x2048 (constant S_ .f32 0xFF800000#32)) (Host.reduce FloatOps.maximumf x (constant S_ .f32 0xFF800000#32) reducesTo_S4x2x2048_S2x2048_d0 h_S_)))))) (broadcastInDim S4x2x2048 ![0, 1, 2] bcast_S1x2x2048_S4x2x2048_0_1_2 (broadcastInDim S1x2x2048 ![1, 2] bcast_S2x2048_S1x2x2048_1_2 (Host.reduceAdd (Host.exp (subf x (broadcastInDim S4x2x2048 ![0, 1, 2] bcast_S1x2x2048_S4x2x2048_0_1_2 (broadcastInDim S1x2x2048 ![1, 2] bcast_S2x2048_S1x2x2048_1_2 (maximumf (broadcastInDim S2x2048 ![] bcast_S_S2x2048 (constant S_ .f32 0xFF800000#32)) (Host.reduce FloatOps.maximumf x (constant S_ .f32 0xFF800000#32) reducesTo_S4x2x2048_S2x2048_d0 h_S_)))))) (constant S_ .f32 0x00000000#32) reducesTo_S4x2x2048_S2x2048_d0 h_S_)))

/-- The lower bound of layer `l` at column `j` of the two directions' 2048 channels laid one after the other. -/
def bound (x : FVec Ideal S4x2x2048 .f32) (l : Fin 4) (j : Fin 4096) : EReal :=
  lower (fun k => soft x (ix3 k ⟨j.val / 2048, by omega⟩ ⟨j.val % 2048, by omega⟩)) l

/-- The two terms of each bound: its logarithm to base 2, and one less it. -/
def terms (x : FVec Ideal S4x2x2048 .f32) : S2x4x4096.Idx → EReal := fun i =>
  if (i 0).val = 0 then Ideal.div (Ideal.log (bound x (i 1) (i 2))) ((Real.log 2 : ℝ) : EReal) else 1 - bound x (i 1) (i 2)

/-- The terms at an index by its coordinates, the bound's definition opened. -/
theorem terms_at (x : FVec Ideal S4x2x2048 .f32) (i0 : Fin 2) (i1 : Fin 4) (i2 : Fin 4096) : terms x (ix3 i0 i1 i2)
    = if i0.val = 0 then
        Ideal.div (Ideal.log ((∑ k, if k ≤ i1 then soft x (ix3 k ⟨i2.val / 2048, by omega⟩ ⟨i2.val % 2048, by omega⟩) else 0)
          - soft x (ix3 0 ⟨i2.val / 2048, by omega⟩ ⟨i2.val % 2048, by omega⟩))) ((Real.log 2 : ℝ) : EReal)
      else 1 - ((∑ k, if k ≤ i1 then soft x (ix3 k ⟨i2.val / 2048, by omega⟩ ⟨i2.val % 2048, by omega⟩) else 0)
        - soft x (ix3 0 ⟨i2.val / 2048, by omega⟩ ⟨i2.val % 2048, by omega⟩)) := rfl

/-- The reference's bounds, as it writes them: the running sum of the softmax less its first layer, the two directions laid side by side. -/
abbrev bounds (x : FVec Ideal S4x2x2048 .f32) : FVec Ideal S4x4096 .f32 :=
  shapeCast _ (subf (Host.reduceWindowAdd (t := S4x2x2048) ![4, 1, 1] ![1, 1, 1] ![3, 0, 0] ![0, 0, 0] (soft x) (broadcastInDim S_ ![] bcast_S_S_ (constant S_ .f32 0x00000000#32)) reduceWindows_S4x2x2048_S4x2x2048_w4s1p3_0_w1s1p0_0_w1s1p0_0 h_S_)
    (broadcastInDim S4x2x2048 ![0, 1, 2] bcast_S1x2x2048_S4x2x2048_0_1_2 (extractStridedSlice S1x2x2048 ![0, 0, 0] (soft x) slices_S4x2x2048_S1x2x2048_0_0_0))) shapeCasts_S4x2x2048_S4x4096

/-- The pattern the reference writes for two denotes the real number two. -/
theorem two : Ideal.ofBits .f32 0x40000000#32 = ((2 : ℝ) : EReal) := by
  simp [Ideal.ofBits, Ideal.ieee, -EReal.coe_mul]; norm_num

/-- An entry of them is the bound. -/
theorem bounds_eq (x : FVec Ideal S4x2x2048 .f32) (l : Fin 4) (j : Fin 4096) : bounds x (ix2 l j) = bound x l j := by
  pointwise [bounds]
  rw [cumsum _ _ (fun i => by pointwise)]
  rfl

/-- The reference's result is the two terms of the bounds. -/
theorem reference (m : (ℓ : Loc nD τ sig) → Buf (Elt Ideal) ℓ) (c : Dev nD) :
    res_main_v24 m c = terms (m ((c.tc : Thread nD τ).loc main_arg0)) := by
  funext i
  have e : res_main_v24 m c = concatenate S2x4x4096 0 [⟨S1x4x4096, (broadcastInDim S1x4x4096 ![1, 2] bcast_S4x4096_S1x4x4096_1_2 (Host.divf (Host.log (bounds (m ((c.tc : Thread nD τ).loc main_arg0)))) (broadcastInDim S4x4096 ![] bcast_S_S4x4096 (Host.log (constant S_ .f32 0x40000000#32)))))⟩,
      ⟨S1x4x4096, (broadcastInDim S1x4x4096 ![1, 2] bcast_S4x4096_S1x4x4096_1_2 (subf (broadcastInDim S4x4096 ![] bcast_S_S4x4096 (constant S_ .f32 0x3F800000#32)) (bounds (m ((c.tc : Thread nD τ).loc main_arg0)))))⟩]
      concatenates_S1x4x4096_S1x4x4096_S2x4x4096_d0 := rfl
  rw [e]
  clear e
  change S2x4x4096.Idx at i
  idx_vars i
  pointwise
  rw [cumsum _ _ (fun i => by pointwise), two, Ideal.log_coe, if_neg (by norm_num)]
  rw [terms_at]
  by_cases p : i0.val < 1
  · rw [dif_pos p, if_pos (Nat.lt_one_iff.1 p)]
  · rw [dif_neg p, if_neg (fun q => p (Nat.lt_one_iff.2 q))]

end Cert.LowerBounds

end
-- ==== Proof.LowerBounds.lean ====
/-
  The terms of the forget gates' lower bounds (`_lower_bound_terms`): the softmax of the logits over the layers, its running sum less
  its first term, the logarithm of that to base 2 and one less it. The kernel multiplies the natural logarithm by the constant named
  `inv_ln2`, which denotes the inverse of the logarithm of 2.
-/
module

public import proofs.«01_k».proof.Defs
public import proofs.«01_k».proof.Proof.Gen.Kernel11Ideal.Value
public import proofs.«01_k».proof.Proof.LowerBoundsRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel11Ideal.LowerBounds

open Cert.Kernel11Ideal Cert.Kernel11Ideal.Gen Cert.LowerBounds

variable (m : (ℓ : Loc nD τ sig) → Buf (Elt Ideal) ℓ)

/-- The named constant denotes the inverse of the logarithm of 2. -/
theorem inv_ln2 : Named.named (F := Ideal) κ "inv_ln2" (φ := .f32) 0x3FB8AA3B#32 = (((Real.log 2)⁻¹ : ℝ) : EReal) :=
  IdealRules.named_const.ideal_named_scalar _ _ _ _ rfl

/-- To multiply by it is to divide by the logarithm of 2. -/
theorem scaled (x : EReal) : x * (((Real.log 2)⁻¹ : ℝ) : EReal) = Ideal.div x ((Real.log 2 : ℝ) : EReal) := by
  rw [Ideal.div_coe (Real.log_pos (by norm_num)).ne', one_div]

/-- The two windows' block indices at the one grid point. -/
theorem idx : ∀ t : Fin cfg0.N, win0_0.index t = ![0, 0] ∧ win0_1.index t = ![0, 0, 0] :=
  (by decide +kernel : ∀ t : Fin grid0.N, _)

/-- An entry of the logits as the kernel reads them: layer `l`, the two directions laid side by side. -/
theorem logits (c : Dev nD) (t : Fin cfg0.N) (l : Fin 4) (j : Fin 4096) :
    iblk m c 0 t (ix2 l j) = m ((c : Thread nD τ).loc main_arg0) (ix3 l ⟨j.val / 2048, by omega⟩ ⟨j.val % 2048, by omega⟩) := by
  blk_point [iblk, V, idx t]

/-- The kernel's softmax is the reference's. -/
theorem softmax (X : Vec Ideal S4x4096 .f32) (x : FVec Ideal Reference11Ideal.S4x2x2048 .f32)
    (h : ∀ (l : Fin 4) (j : Fin 4096), X (ix2 l j) = x (ix3 l ⟨j.val / 2048, by omega⟩ ⟨j.val % 2048, by omega⟩))
    (l : Fin 4) (j : Fin 4096) :
    k0_pay9 X (ix2 l j) = soft x (ix3 l ⟨j.val / 2048, by omega⟩ ⟨j.val % 2048, by omega⟩) := by
  pointwise [k0_pay9, soft]
  simp only [h]
  have e : ∀ (b : EReal) (f : Fin 4 → EReal), max b (Finset.fold max b f Finset.univ) = Finset.fold max b f Finset.univ :=
    fun b f => max_eq_right ((Finset.le_fold_max _).2 (Or.inl le_rfl))
  simp only [e]

/-- The softmax of the loaded logits. -/
theorem loaded (c : Dev nD) (t : Fin cfg0.N) (l : Fin 4) (j : Fin 4096) :
    k0_pay9 (View.ld (iblk m c 0 t) r0_0) (ix2 l j)
      = soft (m ((c : Thread nD τ).loc main_arg0)) (ix3 l ⟨j.val / 2048, by omega⟩ ⟨j.val % 2048, by omega⟩) := by
  refine softmax _ _ (fun l j => ?_) l j
  refine Eq.trans ?_ (logits m c t l j)
  pointwise [r0_0]

/-- The block the kernel writes holds the terms. -/
theorem point (c : Dev nD) (t : Fin cfg0.N) (y : S2x4x4096.Idx) :
    out0_1 (iblk m c 0 t) y = terms (m ((c : Thread nD τ).loc main_arg0)) y := by
  canon_tiles x h
  all_goals
    change S1x1x4096.Idx at x
    idx_vars y
    idx_vars x
    have e0 : x0.val = 0 := by omega
    have e1 : x1.val = 0 := by omega
    rw [terms_at]
    pointwise [k0_pay1, k0_pay2, k0_pay3, k0_pay4, k0_pay5, k0_pay6, k0_pay7, k0_pay8, k0_pay10, k0_pay11, k0_pay12, k0_pay13, k0_pay14, k0_pay15, k0_pay16, k0_pay17, k0_pay18, k0_pay19, k0_pay20]
    obtain rfl : x2 = y2 := Fin.ext h2.symm
    simp only [loaded, inv_ln2, scaled]
    rw [e0] at h0
    rw [e1] at h1
    fin_cases y0 <;> fin_cases y1 <;> first | (exfalso; simp at h0 h1; done) | simp [Fin.sum_univ_four]

/-- The result is the terms of the argument. -/
theorem final (c : Dev nD) : (dats m 0 c).arrAt 1 cfg0.N = terms (m ((c : Thread nD τ).loc main_arg0)) := by
  refine (dats m 0 c).arrAt_eq_of_covers 1 _ (by decide +kernel) fun t _ y => ?_
  blk_simp
  rw [after0_1]
  refine (point m c t y).trans ?_
  have e : (win0_1.blk t).view.emb y = y := by
    blk_ext!
    all_goals simp [idx t]
  rw [e]

end Cert.Kernel11Ideal.LowerBounds

namespace Cert.Proof.LowerBounds

/-- The kernel and the reference end with the same result. -/
theorem algebraic : Cert.algebraic_Kernel11Ideal_Reference11Ideal := by
  intro m ρ m' ρ' _ hagree
  refine ⟨fun c => Cert.LowerBounds.terms (m (c.tc.loc Cert.Kernel11Ideal.main_arg0)), ?_, ?_⟩
  · exact (θ_run Cert.Kernel11Ideal.defs _ _).mono
      (fun _ h c => ⟨(h c).1.trans (Cert.Kernel11Ideal.LowerBounds.final m c), (h c).2⟩)
      (Cert.Kernel11Ideal.Value.run_blocks m ρ)
  · refine (θ_run Cert.Reference11Ideal.defs _ _).mono (fun _ h c => ⟨(h c).1.trans ?_, (h c).2⟩)
      (Cert.Reference11Ideal.Value.run (F := Ideal) m' ρ')
    rw [Cert.LowerBounds.reference, hagree c]

end Cert.Proof.LowerBounds

end
-- ==== Proof.ConvTile.lean ====
/-
  One tile of the row convolution: 64 rows by 128 channels, computed from the 96 padded rows around it. For each tap the padded rows
  are rotated and cut, multiplied with the tap's row of weights and added to what is there, eight taps apart first. And the block of
  256 rows by 2048 channels that is put together of such tiles.
-/
module

public import proofs.«01_k».proof.Defs
public import proofs.«01_k».proof.Proof.ConvColRef
public import Idealize.ShloMosaic.Lib.Pipeline.ValueKit
public import Idealize.ShloMosaic.Lib.WholeRead

@[expose] public section

set_option maxRecDepth 16384

noncomputable section

open Idealize.ShloMosaic

namespace Cert.ConvTile

open Cert.ConvCol (at2)

/-- The padded rows a tile is computed from, -/
abbrev Rows : Shape := ⟨2, ![96, 128]⟩

/-- the tile -/
abbrev Tile : Shape := ⟨2, ![64, 128]⟩

/-- and a row of weights. -/
abbrev Row : Shape := ⟨2, ![1, 128]⟩

theorem rotates : Rows.Rotates 0 none := by decide

theorem slices : ∀ j : Fin 31, Rows.Slices ![j.val / 8 * 8, 0] Tile := by decide

theorem broadcasts : Row.Broadcasts Tile := by decide

theorem casts : Row.ShapeCasts Row := by decide

/-- The rows tap `j` meets, times its weights. -/
def term (x : FVec Ideal Rows .f32) (w : Fin 31 → FVec Ideal Row .f32) (j : Fin 31) : FVec Ideal Tile .f32 :=
  mulf (extractStridedSlice Tile ![j.val / 8 * 8, 0] (dynamicRotate 0 (BitVec.ofNat 32 (95 - j.val % 8)) none x rotates) (slices j))
    (broadcastTo Tile (w j) broadcasts)

/-- The order the taps are added in. -/
def order : List (Fin 31) :=
  [0, 8, 16, 24, 1, 9, 17, 25, 2, 10, 18, 26, 3, 11, 19, 27, 4, 12, 20, 28, 5, 13, 21, 29, 6, 14, 22, 30, 7, 15, 23]

/-- The tile: the bias, and the taps' terms one after the other. -/
def tile (x : FVec Ideal Rows .f32) (w : Fin 31 → FVec Ideal Row .f32) (b : FVec Ideal Row .f32) : FVec Ideal Tile .f32 :=
  order.foldl (fun a j => addf a (term x w j))
    (addf (broadcast Tile (Scalar.ofBits .f32 0x00000000#32)) (broadcastTo Tile (shapeCast Row b casts) broadcasts))

/-- A term at an index. -/
theorem term_apply (x : FVec Ideal Rows .f32) (w : Fin 31 → FVec Ideal Row .f32) (j : Fin 31) (i : Fin 64) (q : Fin 128) :
    term x w j (ix2 i q) = x (ix2 ⟨i.val + j.val + 1, by omega⟩ q) * w j (ix2 0 q) := by
  unfold term
  pointwise
  have hj := j.isLt
  have hi := i.isLt
  have e : (BitVec.ofNat 32 (95 - j.val % 8)).toNat = 95 - j.val % 8 := by
    rw [BitVec.toNat_ofNat]
    omega
  refine congrArg (fun n => x (ix2 n q) * w j (ix2 0 q)) (Fin.ext ?_)
  show (_ + 96 - _ % 96) % 96 = i.val + j.val + 1
  rw [e]
  omega

/-- Adding up terms one after the other is their sum. -/
theorem fold_apply (f : Fin 31 → FVec Ideal Tile .f32) (l : List (Fin 31)) (a : FVec Ideal Tile .f32) (i : Tile.Idx) :
    l.foldl (fun a j => addf a (f j)) a i = a i + (l.map fun j => f j i).sum := by
  induction l generalizing a with
  | nil => simp
  | cons j l ih =>
    rw [List.foldl_cons, ih, List.map_cons, List.sum_cons, ← add_assoc]
    rfl

/-- The order visits every tap once. -/
theorem sum_order (f : Fin 31 → EReal) : (order.map f).sum = ∑ j, f j := by
  rw [Fin.sum_univ_def]
  exact ((by decide : order.Perm (List.finRange 31)).map f).sum_eq

/-- A tile at an index: the bias and the sum over the taps. -/
theorem tile_apply (x : FVec Ideal Rows .f32) (w : Fin 31 → FVec Ideal Row .f32) (b : FVec Ideal Row .f32) (i : Fin 64) (q : Fin 128) :
    tile x w b (ix2 i q) = b (ix2 0 q) + ∑ j : Fin 31, x (ix2 ⟨i.val + j.val + 1, by omega⟩ q) * w j (ix2 0 q) := by
  unfold tile
  rw [fold_apply, sum_order]
  simp only [term_apply]
  congr 1
  pointwise

/-- A box read back of a buffer whose stored pieces agree with one function of the buffer's places, and cover them, is that function
there. -/
theorem readCov_of_pieces {sig : RefSig} {κ : Kind} {sp : Space} {s : Shape} {e : EltTy} (v : View sig κ sp s e)
    (L : List (View.Piece (Elt Ideal) s e)) (G : s.Idx → Elt Ideal e) (hL : ∀ p ∈ L, ∀ x : p.1.shape.Idx, p.2 x = G (p.1.emb x))
    (hc : ∀ y, ∃ p ∈ L, y ∈ p.1.set) (r : Rect s) (x : r.shape.Idx) : v.readCov L r.toLoadRect x = G (r.emb x) :=
  View.read_writes_apply_of_pieces v _ G L hL _ (hc _)

/-- The whole of a shape, as a box of it, has each place at itself. -/
theorem emb_whole {s : Shape} (off : Fin s.rank → ℕ) (inb : ∀ a, off a + s.size a ≤ s.size a) (h0 : ∀ a, off a = 0) (x : s.Idx) :
    (Rect.unit off s.size inb).emb x = x := by
  funext a
  refine Fin.ext ?_
  show off a + 1 * (x a).val = (x a).val
  rw [h0, Nat.zero_add, Nat.one_mul]

/-- A load of the whole of a buffer is what the buffer holds. -/
theorem load_whole {sig : RefSig} {κ : Kind} {sp : Space} {s : Shape} {e : EltTy} (v : Memref sig κ sp s e) (hv : v.IsWhole)
    (X : s.Idx → Elt Ideal e) (off : Fin s.rank → ℕ) (inb : ∀ a, off a + s.size a ≤ s.size a) (h0 : ∀ a, off a = 0) :
    v.view.readAt (Elt Ideal) (Rect.unit off s.size inb).toLoadRect (hv.unread X) = X := by
  funext x
  rw [Memref.IsWhole.readAt_unread]
  exact congrArg X (emb_whole off inb h0 x)

/-- A token's entry before the convolution: the first projection times the sigmoid of the second. -/
def glu (x0 x1 : (⟨3, ![1, 256, 2048]⟩ : Shape).Idx → EReal) (r : Fin 256) (q : Fin 2048) : EReal :=
  x0 (ix3 0 r q) * Ideal.div 1 (1 + Ideal.exp (-x1 (ix3 0 r q)))

section

variable {sig : RefSig} {N d : ℕ} (hN : 3 * d + 96 ≤ N) (pad : List (View.Piece (Elt Ideal) ⟨2, ![N, 2048]⟩ .f32))
  (w : Memref sig .tc .vmem ⟨2, ![31, 2048]⟩ .f32) (hw : w.IsWhole) (b : Memref sig .tc .vmem ⟨2, ![1, 2048]⟩ .f32) (hb : b.IsWhole)
  (x : Memref sig .tc .vmem ⟨2, ![N, 2048]⟩ .f32) (W : (⟨2, ![31, 2048]⟩ : Shape).Idx → EReal) (B : (⟨2, ![1, 2048]⟩ : Shape).Idx → EReal)

/-- What is stored at rows `64 r` and channels `128 k`: the tile of the padded rows from `d r` on. -/
def piece (r : Fin 4) (k : Fin 16) : View.Piece (Elt Ideal) ⟨2, ![256, 2048]⟩ .f32 :=
  ⟨Rect.unit ![64 * r.val, 128 * k.val] Tile.size (by revert r k; decide),
    shapeCast Tile (tile (x.view.readCov pad (Rect.unit (s := ⟨2, ![N, 2048]⟩) ![d * r.val, 128 * k.val] Rows.size (Fin.forall_fin_two.2
          ⟨show d * r.val + 96 ≤ N by have := Nat.mul_le_mul_left d (Nat.le_of_lt_succ r.isLt); omega,
            show 128 * k.val + 128 ≤ 2048 by have := k.isLt; omega⟩)).toLoadRect)
        (fun j => w.view.readAt (Elt Ideal) (Rect.unit (s := ⟨2, ![31, 2048]⟩) ![j.val, 128 * k.val] Row.size (by revert j k; decide)).toLoadRect (hw.unread W))
        (b.view.readAt (Elt Ideal) (Rect.unit (s := ⟨2, ![1, 2048]⟩) ![0, 128 * k.val] Row.size (by revert k; decide)).toLoadRect (hb.unread B)))
      (by decide)⟩

/-- All the stores, the last first. -/
def pieces : List (View.Piece (Elt Ideal) ⟨2, ![256, 2048]⟩ .f32) :=
  [3, 2, 1, 0].flatMap fun r => [15, 14, 13, 12, 11, 10, 9, 8, 7, 6, 5, 4, 3, 2, 1, 0].map (piece hN pad w hw b hb x W B r)

/-- The convolution of a block: the bias and the taps over the padded rows `P`, whose rows from `d r` on go with the block's rows from
`64 r` on. -/
def block (d : ℕ) (P : (⟨2, ![N, 2048]⟩ : Shape).Idx → EReal) (W : (⟨2, ![31, 2048]⟩ : Shape).Idx → EReal)
    (B : (⟨2, ![1, 2048]⟩ : Shape).Idx → EReal) : (⟨2, ![256, 2048]⟩ : Shape).Idx → EReal := fun y =>
  B (ix2 0 (y 1)) + ∑ j ∈ Finset.range 31, at2 P (d * ((y 0).val / 64) + (y 0).val % 64 + j + 1) (y 1).val * at2 W j (y 1).val

variable (P : (⟨2, ![N, 2048]⟩ : Shape).Idx → EReal) (hP : ∀ p ∈ pad, ∀ y : p.1.shape.Idx, p.2 y = P (p.1.emb y))
  (hc : ∀ y, ∃ p ∈ pad, y ∈ p.1.set)

include hP hc in
/-- Every piece stored is a piece of that convolution, where those it reads are pieces of the padded rows; -/
theorem pieces_eq : ∀ p ∈ pieces hN pad w hw b hb x W B, ∀ y : p.1.shape.Idx, p.2 y = block d P W B (p.1.emb y) := by
  intro p hp
  obtain ⟨r, -, hp⟩ := List.mem_flatMap.1 hp
  obtain ⟨k, -, rfl⟩ := List.mem_map.1 hp
  intro (y : Tile.Idx)
  idx_vars y
  have h0 := y0.isLt
  have h1 := y1.isLt
  have hk := k.isLt
  have hr : d * r.val ≤ d * 3 := Nat.mul_le_mul_left d (Nat.le_of_lt_succ r.isLt)
  have e0 : (64 * r.val + 1 * y0.val) / 64 = r.val := by omega
  have e1 : (64 * r.val + 1 * y0.val) % 64 = y0.val := by omega
  unfold piece
  dsimp only
  rw [shapeCast_self, tile_apply]
  simp only [readCov_of_pieces _ _ _ hP hc]
  unfold block
  rw [Finset.sum_range]
  refine congrArg₂ (fun a b : EReal => a + b) ?_ (Finset.sum_congr rfl fun j _ => congrArg₂ (fun a b : EReal => a * b) ?_ ?_)
  · rw [Memref.IsWhole.readAt_unread]
    exact congrArg B (Shape.idx_ext₂ rfl rfl)
  · have hj := j.isLt
    have e : d * ((64 * r.val + 1 * y0.val) / 64) + (64 * r.val + 1 * y0.val) % 64 + j.val + 1 = d * r.val + 1 * (y0.val + j.val + 1) := by
      rw [e0, e1]
      omega
    rw [at2, dif_pos ⟨by show d * ((64 * r.val + 1 * y0.val) / 64) + (64 * r.val + 1 * y0.val) % 64 + j.val + 1 < N; rw [e]; omega,
      by show 128 * k.val + 1 * y1.val < 2048; omega⟩]
    exact congrArg P (Shape.idx_ext₂ e.symm rfl)
  · rw [Memref.IsWhole.readAt_unread, at2, dif_pos ⟨j.isLt, by show 128 * k.val + 1 * y1.val < 2048; omega⟩]
    exact congrArg W (Shape.idx_ext₂ (by show j.val + 1 * 0 = j.val; omega) rfl)

/-- they cover the block; -/
theorem pieces_cover (y : (⟨2, ![256, 2048]⟩ : Shape).Idx) : ∃ p ∈ pieces hN pad w hw b hb x W B, y ∈ p.1.set := by
  idx_vars y
  have h0 := y0.isLt
  have h1 := y1.isLt
  refine ⟨_, List.mem_flatMap.2 ⟨⟨y0.val / 64, by omega⟩, (by decide : ∀ r : Fin 4, r ∈ [3, 2, 1, 0]) _, List.mem_map.2 ⟨⟨y1.val / 128, by omega⟩,
    (by decide : ∀ k : Fin 16, k ∈ [15, 14, 13, 12, 11, 10, 9, 8, 7, 6, 5, 4, 3, 2, 1, 0]) _, rfl⟩⟩, ?_⟩
  unfold piece
  rw [Rect.mem_set_unit]
  refine Fin.forall_fin_two.2 ⟨?_, ?_⟩
  · show 64 * (y0.val / 64) ≤ y0.val ∧ y0.val < 64 * (y0.val / 64) + 64
    omega
  · show 128 * (y1.val / 128) ≤ y1.val ∧ y1.val < 128 * (y1.val / 128) + 128
    omega

include hP hc in
/-- so what is read back of them is the convolution. -/
theorem pieces_read (v : Memref sig .tc .vmem ⟨2, ![256, 2048]⟩ .f32) (inb) :
    v.view.readCov (pieces hN pad w hw b hb x W B)
        (Rect.unit (s := ⟨2, ![256, 2048]⟩) ![0, 0] (⟨2, ![256, 2048]⟩ : Shape).size inb).toLoadRect = block d P W B := by
  funext (y : (⟨2, ![256, 2048]⟩ : Shape).Idx)
  rw [readCov_of_pieces _ _ _ (pieces_eq hN pad w hw b hb x W B P hP hc) (pieces_cover hN pad w hw b hb x W B)]
  exact congrArg (block d P W B) (emb_whole (s := ⟨2, ![256, 2048]⟩) _ _ (by decide) y)

end

end Cert.ConvTile

end
-- ==== Proof.ConvRowRef.lean ====
/-
  The convolution along rows of 64 tokens, as the reference takes it: an entry of the padded lines, and the 31 taps with the bias.
-/
module

public import proofs.«01_k».proof.Defs
public import proofs.«01_k».proof.Proof.Gen.Reference12Ideal.Run
public import proofs.«01_k».proof.Proof.ConvColRef
public import Idealize.ShloMosaic.Lib.Pipeline.ValueKit

@[expose] public section

set_option maxRecDepth 16384

noncomputable section

open Idealize.ShloMosaic Idealize.ShloMosaic.TcCoe Idealize.SL.Sem

namespace Cert.ConvRow

open Cert.Reference12Ideal Cert.Reference12Ideal.Gen Cert.Reference12Ideal.Value
open Cert.ConvCol (at2)

/-- An entry of a padded line, 15 zeros on either side of its 64 tokens: the first projection times the sigmoid of the second. -/
def line (x : S2x4096x24576.Idx → EReal) (a : Fin 2) (g : ℕ) (q : Fin 2048) (h : ℕ) : EReal :=
  if p : (15 ≤ h ∧ h - 15 < 64) ∧ g < 64 then
    x (ix3 a ⟨g * 64 + (h - 15), by omega⟩ ⟨10240 + q.val, by omega⟩)
      * Ideal.div 1 (1 + Ideal.exp (-x (ix3 a ⟨g * 64 + (h - 15), by omega⟩ ⟨12288 + q.val, by omega⟩)))
  else 0

/-- The convolution along the lines: 31 taps per channel, and the channel's bias. -/
def conv (x : S2x4096x24576.Idx → EReal) (w : S31x2048.Idx → EReal) (b : S2048.Idx → EReal) : S2x4096x2048.Idx → EReal := fun i =>
  ∑ j ∈ Finset.range 31, line x (i 0) ((i 1).val / 64) (i 2) (j + (i 1).val % 64) * at2 w j (i 2).val + b (ix1 (i 2))

/-- The reference's padded lines: line `g` of request `a` is its line `64 a + g`. -/
theorem padded_ref (L : Valuation τ sig (Elt Ideal)) (a : Fin 2) (g : ℕ) (hg : g < 64) (h : Fin 94) (q : Fin 2048) (hs) :
    res_main_v10 (F := Ideal) L (ix3 ⟨a.val * 64 + g, hs⟩ h q) = line (L (Proc.devRef .tc main_arg0)) a g q h.val := by
  have e : ∀ h1 h2, (⟨(a.val * 64 + g) / 64, h1⟩ : Fin 2) = ⟨a.val, h2⟩ := fun _ _ =>
    Fin.ext (by show (a.val * 64 + g) / 64 = a.val; omega)
  have e' : (a.val * 64 + g) % 64 = g := by omega
  pointwise [res_main_v10]
  unfold line
  by_cases p : 15 ≤ h.val ∧ h.val - 15 < 64
  · rw [dif_pos ⟨hs, p⟩, dif_pos ⟨p, hg⟩]
    simp only [e _ a.isLt, e']
  · rw [dif_neg fun p' => p p'.2, dif_neg fun p' => p p'.1]
    simp [FloatOps.sitofp]

set_option maxHeartbeats 2000000 in
/-- The reference's convolution is that one. -/
theorem reference (L : Valuation τ sig (Elt Ideal)) : res_main_v230 L
      = conv (L (Proc.devRef .tc main_arg0)) (L (Proc.devRef .tc main_arg1)) (L (Proc.devRef .tc main_arg2)) := by
  funext i
  change S2x4096x2048.Idx at i
  idx_vars i
  have hc : ∀ i0 i1 i2, conv (L (Proc.devRef .tc main_arg0)) (L (Proc.devRef .tc main_arg1)) (L (Proc.devRef .tc main_arg2)) (ix3 i0 i1 i2)
      = ∑ j ∈ Finset.range 31, line (L (Proc.devRef .tc main_arg0)) i0 (i1.val / 64) i2 (j + i1.val % 64)
          * at2 (L (Proc.devRef .tc main_arg1)) j i2.val + L (Proc.devRef .tc main_arg2) (ix1 i2) := fun _ _ _ => rfl
  have hg : i1.val / 64 < 64 := by have := i1.isLt; omega
  pointwise [res_main_v230, res_main_v163, res_main_v86]
  simp only [padded_ref _ _ _ hg, hc, Finset.sum_range_succ, Finset.sum_range_zero, zero_add]
  have hq : i2.val < 2048 := i2.isLt
  simp only [at2, hq, Nat.reduceLT, and_self, dite_true]
  rfl

end Cert.ConvRow

end
-- ==== Proof.ConvRow.lean ====
/-
  The convolution along the rows of a stream cut into segments of 64 tokens, with the layer norm and the gates after it
  (`_conv_seq`).
-/
module

public import proofs.«01_k».proof.Defs
public import proofs.«01_k».proof.Proof.Gen.Kernel12Ideal.Value
public import proofs.«01_k».proof.Proof.Gen.Reference12Ideal.Run
public import proofs.«01_k».proof.Proof.Sigmoid
public import proofs.«01_k».proof.Proof.ConvTile
public import proofs.«01_k».proof.Proof.ConvRowRef
public import proofs.«01_k».proof.Proof.CvPost
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Kernel12Ideal.ConvRow

open Cert.Kernel12Ideal Cert.Kernel12Ideal.Gen Cert.ConvTile Cert.ConvRow
open Cert.ConvCol (at2)

variable (m : (ℓ : Loc nD τ sig) → Buf (Elt Ideal) ℓ)

/-- A block's four segments of 64 tokens, each between two margins of 16 rows of zeros. -/
def padded (x0 x1 : S1x256x2048.Idx → EReal) : S384x2048.Idx → EReal := fun y =>
  if h : 16 ≤ (y 0).val % 96 ∧ (y 0).val % 96 < 80 then
    glu x0 x1 ⟨64 * ((y 0).val / 96) + ((y 0).val % 96 - 16), by have := (y 0).isLt; change (y 0).val < 384 at this; omega⟩ (y 1)
  else 0

/-- On the margins it is zero, -/
theorem padded_margin (x0 x1 : S1x256x2048.Idx → EReal) (o : ℕ) (inb : ∀ a, (![o, 0] : Fin 2 → ℕ) a + S16x2048.size a ≤ S384x2048.size a)
    (ho : o % 96 = 0 ∨ o % 96 = 80) (i : Fin 16) (q : Fin 2048) :
    padded x0 x1 ((Rect.unit (s := S384x2048) ![o, 0] S16x2048.size inb).emb (ix2 i q)) = 0 := by
  have e : (((Rect.unit (s := S384x2048) ![o, 0] S16x2048.size inb).emb (ix2 i q)) 0).val = o + 1 * i.val := rfl
  have := i.isLt
  rw [padded, dif_neg (by rw [e]; omega)]

/-- between them a segment's row. -/
theorem padded_segment (x0 x1 : S1x256x2048.Idx → EReal) (o s : ℕ) (inb : ∀ a, (![o, 0] : Fin 2 → ℕ) a + S64x2048.size a ≤ S384x2048.size a)
    (ho : o = 96 * s + 16) (i : Fin 64) (q : Fin 2048) (h) :
    padded x0 x1 ((Rect.unit (s := S384x2048) ![o, 0] S64x2048.size inb).emb (ix2 i q)) = glu x0 x1 ⟨64 * s + i.val, h⟩ q := by
  have e : (((Rect.unit (s := S384x2048) ![o, 0] S64x2048.size inb).emb (ix2 i q)) 0).val = o + 1 * i.val := rfl
  have := i.isLt
  rw [padded, dif_pos (by rw [e]; omega)]
  refine congrArg₂ (glu x0 x1) (Fin.ext ?_) (Fin.ext (Nat.zero_add _ |>.trans (Nat.one_mul _)))
  show 64 * (_ / 96) + (_ % 96 - 16) = 64 * s + i.val
  rw [e]
  omega

/-- The kernel's own term for it. -/
theorem glu_apply (arg2 : Memref sig .tc .vmem S1x256x2048 .f32) (harg2 : arg2.IsWhole) (arg3 : Memref sig .tc .vmem S1x256x2048 .f32) (harg3 : arg3.IsWhole)
    (x0 x1 : Vec Ideal S1x256x2048 .f32) (r : Fin 256) (q : Fin 2048) :
    k0_pay2 (arg2.view.readAt (Elt Ideal) (Rect.unit ![0, 0, 0] S1x256x2048.size inb_S1x256x2048_S1x256x2048_0_0_0).toLoadRect (harg2.unread x0))
        (arg3.view.readAt (Elt Ideal) (Rect.unit ![0, 0, 0] S1x256x2048.size inb_S1x256x2048_S1x256x2048_0_0_0).toLoadRect (harg3.unread x1)) (ix2 r q)
      = glu x0 x1 r q := by
  rw [load_whole arg2 harg2 x0 _ _ (by decide), load_whole arg3 harg3 x1 _ _ (by decide)]
  pointwise [k0_pay2]
  simp only [Sigmoid.eq]
  rfl

section

variable (c : Dev nD) (arg2 : Memref sig .tc .vmem S1x256x2048 .f32) (harg2 : arg2.IsWhole) (arg3 : Memref sig .tc .vmem S1x256x2048 .f32) (harg3 : arg3.IsWhole)
  (arg5 : Memref sig .tc .vmem S31x2048 .f32) (harg5 : arg5.IsWhole) (arg6 : Memref sig .tc .vmem S1x2048 .f32) (harg6 : arg6.IsWhole)
  (arg10 : Memref sig .tc .vmem S384x2048 .f32) (x0 x1 : Vec Ideal S1x256x2048 .f32) (x3 : Vec Ideal S31x2048 .f32) (x4 : Vec Ideal S1x2048 .f32)

set_option maxHeartbeats 2000000 in
/-- Every piece the body stores in the first scratch buffer is a piece of the padded segments, -/
theorem padPieces : ∀ p ∈ kernelRun0_A.sl.HS0_12 (F := Ideal) c arg2 harg2 arg3 harg3 x0 x1, ∀ x : p.1.shape.Idx,
    p.2 x = padded x0 x1 (p.1.emb x) := by
  unfold kernelRun0_A.sl.HS0_12
  sl_unfold_run_names
  intro p hp
  simp only [List.mem_cons, List.not_mem_nil, or_false] at hp
  rcases hp with rfl | rfl | rfl | rfl | rfl | rfl | rfl | rfl | rfl | rfl | rfl | rfl
  all_goals first
    | intro (x : S16x2048.Idx)
      idx_vars x
      rw [padded_margin _ _ _ _ (by decide)]
      pointwise [k0_pay3, k0_pay5, k0_pay6, k0_pay8, k0_pay9, k0_pay11, k0_pay12, k0_pay14]
    | intro (x : S64x2048.Idx)
      idx_vars x
      have h := x0.isLt
      first
        | rw [padded_segment _ _ _ 0 _ rfl _ _ (by omega)]
        | rw [padded_segment _ _ _ 1 _ rfl _ _ (by omega)]
        | rw [padded_segment _ _ _ 2 _ rfl _ _ (by omega)]
        | rw [padded_segment _ _ _ 3 _ rfl _ _ (by omega)]
      pointwise [k0_pay4, k0_pay7, k0_pay10, k0_pay13]
      refine (glu_apply arg2 harg2 arg3 harg3 _ _ _ _).trans (congrArg (fun n => glu _ _ n _) (Fin.ext ?_))
      simp

/-- and they cover the buffer. -/
theorem padCover (y : S384x2048.Idx) : ∃ p ∈ kernelRun0_A.sl.HS0_12 (F := Ideal) c arg2 harg2 arg3 harg3 x0 x1, y ∈ p.1.set := by
  sl_unfold_run_names
  idx_vars y
  have hy := y0.isLt
  simp only [List.mem_cons, List.not_mem_nil, or_false, exists_eq_or_imp, exists_eq_left, Rect.mem_set_unit, Fin.forall_fin_two]
  simp
  omega

/-- What the body stores in the scratch buffer of the convolution are the tiles, each over 96 of the padded rows. -/
theorem stores : kernelRun0_A.sl.HS1_64 c arg2 harg2 arg3 harg3 arg5 harg5 arg6 harg6 arg10 x0 x1 x3 x4
      = pieces (N := 384) (d := 96) (by decide) (kernelRun0_A.sl.HS0_12 c arg2 harg2 arg3 harg3 x0 x1) arg5 harg5 arg6 harg6 arg10 x3 x4 := by
  rfl

/-- So what the body reads back is the convolution. -/
theorem convRead (arg11 : Memref sig .tc .vmem S256x2048 .f32) :
    arg11.view.readCov (kernelRun0_A.sl.HS1_64 c arg2 harg2 arg3 harg3 arg5 harg5 arg6 harg6 arg10 x0 x1 x3 x4)
      (Rect.unit ![0, 0] S256x2048.size inb_S256x2048_S256x2048_0_0).toLoadRect = block 96 (padded x0 x1) x3 x4 := by
  rw [stores]
  exact pieces_read _ _ _ _ _ _ _ _ _ _ (padPieces c arg2 harg2 arg3 harg3 x0 x1) (padCover c arg2 harg2 arg3 harg3 x0 x1) _ _

end

/-- Each window's block index at grid point `t`. -/
theorem idx : ∀ t : Fin cfg0.N, win0_0.index t = ![t.val / 16, t.val % 16, 5] ∧ win0_1.index t = ![t.val / 16, t.val % 16, 6]
    ∧ win0_2.index t = ![t.val / 16, t.val % 16, 7] ∧ win0_3.index t = ![0, 0] ∧ win0_4.index t = ![0, 0] ∧ win0_5.index t = ![0, 0]
    ∧ win0_6.index t = ![0, 0] ∧ win0_7.index t = ![t.val / 16, t.val % 16, 0] :=
  (by decide +kernel : ∀ t : Fin grid0.N, _)

/-- An entry of the first projection's block, -/
theorem in0 (c : Dev nD) (t : Fin cfg0.N) (r : Fin 256) (q : Fin 2048) (h h' h'') :
    iblk m c 0 t (ix3 0 r q) = m ((c : Thread nD τ).loc main_arg0) (ix3 ⟨t.val / 16, h⟩ ⟨256 * (t.val % 16) + r.val, h'⟩ ⟨10240 + q.val, h''⟩) := by
  blk_point [iblk, V, idx t]

/-- of the second's, -/
theorem in1 (c : Dev nD) (t : Fin cfg0.N) (r : Fin 256) (q : Fin 2048) (h h' h'') :
    iblk m c 1 t (ix3 0 r q) = m ((c : Thread nD τ).loc main_arg0) (ix3 ⟨t.val / 16, h⟩ ⟨256 * (t.val % 16) + r.val, h'⟩ ⟨12288 + q.val, h''⟩) := by
  blk_point [iblk, V, idx t]

/-- of the gate's, -/
theorem in2 (c : Dev nD) (t : Fin cfg0.N) (r : Fin 256) (q : Fin 2048) (h h' h'') :
    iblk m c 2 t (ix3 0 r q) = m ((c : Thread nD τ).loc main_arg0) (ix3 ⟨t.val / 16, h⟩ ⟨256 * (t.val % 16) + r.val, h'⟩ ⟨14336 + q.val, h''⟩) := by
  blk_point [iblk, V, idx t]

/-- of the taps', -/
theorem in3 (c : Dev nD) (t : Fin cfg0.N) (r : Fin 31) (q : Fin 2048) :
    iblk m c 3 t (ix2 r q) = m ((c : Thread nD τ).loc main_arg1) (ix2 r q) := by
  blk_point [iblk, V, idx t]

/-- of the biases', -/
theorem in4 (c : Dev nD) (t : Fin cfg0.N) (q : Fin 2048) :
    iblk m c 4 t (ix2 0 q) = m ((c : Thread nD τ).loc main_arg2) (ix1 q) := by
  blk_point [iblk, V, idx t]

/-- of the gains' -/
theorem in5 (c : Dev nD) (t : Fin cfg0.N) (q : Fin 2048) :
    iblk m c 5 t (ix2 0 q) = m ((c : Thread nD τ).loc main_arg3) (ix1 q) := by
  blk_point [iblk, V, idx t]

/-- and of the offsets'. -/
theorem in6 (c : Dev nD) (t : Fin cfg0.N) (q : Fin 2048) :
    iblk m c 6 t (ix2 0 q) = m ((c : Thread nD τ).loc main_arg4) (ix1 q) := by
  blk_point [iblk, V, idx t]

/-- The place of the result where a block's entry lands. -/
theorem out7 (t : Fin cfg0.N) (y0 : Fin 1) (y1 : Fin 256) (y2 : Fin 2048) (h h') :
    ((cfg0.win 7).blk t).view.emb (ix3 y0 y1 y2) = ix3 ⟨t.val / 16, h⟩ ⟨256 * (t.val % 16) + y1.val, h'⟩ y2 := by
  blk_ext!
  all_goals rw [(idx t).2.2.2.2.2.2.2]; simp; try omega

/-- The rows a tap reads of a padded segment are entries of a padded line. -/
theorem tap (c : Dev nD) (t : Fin cfg0.N) (r : Fin 256) (j : ℕ) (hj : j < 31) (q : Fin 2048) (h) :
    at2 (padded (iblk m c 0 t) (iblk m c 1 t)) (96 * (r.val / 64) + r.val % 64 + j + 1) q.val
      = line (m ((c : Thread nD τ).loc main_arg0)) ⟨t.val / 16, h⟩ ((256 * (t.val % 16) + r.val) / 64) q
          (j + (256 * (t.val % 16) + r.val) % 64) := by
  have hr := r.isLt
  rw [at2, dif_pos ⟨by omega, q.isLt⟩]
  unfold padded line
  have e0 : ((ix2 (⟨96 * (r.val / 64) + r.val % 64 + j + 1, by omega⟩ : Fin 384) (⟨q.val, q.isLt⟩ : Fin 2048) : S384x2048.Idx) 0).val
      = 96 * (r.val / 64) + r.val % 64 + j + 1 := rfl
  by_cases p : 15 ≤ j + (256 * (t.val % 16) + r.val) % 64 ∧ j + (256 * (t.val % 16) + r.val) % 64 - 15 < 64
  · rw [dif_pos (by rw [e0]; omega), dif_pos ⟨p, by omega⟩]
    unfold glu
    have e : 64 * ((96 * (r.val / 64) + r.val % 64 + j + 1) / 96) + ((96 * (r.val / 64) + r.val % 64 + j + 1) % 96 - 16) < 256 := by omega
    have e1 : 256 * (t.val % 16) + (64 * ((96 * (r.val / 64) + r.val % 64 + j + 1) / 96) + ((96 * (r.val / 64) + r.val % 64 + j + 1) % 96 - 16))
        = (256 * (t.val % 16) + r.val) / 64 * 64 + (j + (256 * (t.val % 16) + r.val) % 64 - 15) := by omega
    refine congrArg₂ (fun a b : EReal => a * Ideal.div 1 (1 + Ideal.exp (-b))) ?_ ?_
    · refine (in0 m c t ⟨_, e⟩ q h (by omega) (by omega)).trans (congrArg (fun n => m ((c : Thread nD τ).loc main_arg0) (ix3 _ n _)) (Fin.ext e1))
    · refine (in1 m c t ⟨_, e⟩ q h (by omega) (by omega)).trans (congrArg (fun n => m ((c : Thread nD τ).loc main_arg0) (ix3 _ n _)) (Fin.ext e1))
  · rw [dif_neg (by rw [e0]; omega), dif_neg fun x => p x.1]

/-- A block's convolution is the convolution's block. -/
theorem block_conv (c : Dev nD) (t : Fin cfg0.N) (r : Fin 256) (q : Fin 2048) (h h') :
    block 96 (padded (iblk m c 0 t) (iblk m c 1 t)) (iblk m c 3 t) (iblk m c 4 t) (ix2 r q)
      = conv (m ((c : Thread nD τ).loc main_arg0)) (m ((c : Thread nD τ).loc main_arg1)) (m ((c : Thread nD τ).loc main_arg2))
          (ix3 ⟨t.val / 16, h⟩ ⟨256 * (t.val % 16) + r.val, h'⟩ q) := by
  show (show EReal from iblk m c 4 t (ix2 0 q)) + ∑ j ∈ Finset.range 31, at2 (padded (iblk m c 0 t) (iblk m c 1 t)) (96 * (r.val / 64) + r.val % 64 + j + 1) q.val
      * at2 (iblk m c 3 t) j q.val
    = ∑ j ∈ Finset.range 31, line (m ((c : Thread nD τ).loc main_arg0)) ⟨t.val / 16, h⟩ ((256 * (t.val % 16) + r.val) / 64) q
          (j + (256 * (t.val % 16) + r.val) % 64) * at2 (m ((c : Thread nD τ).loc main_arg1)) j q.val
      + m ((c : Thread nD τ).loc main_arg2) (ix1 q)
  rw [add_comm]
  refine congrArg₂ (fun a b : EReal => a + b) (Finset.sum_congr rfl fun j hj => ?_) (in4 m c t q)
  have hj := Finset.mem_range.1 hj
  rw [tap m c t r j hj q h, at2, at2, dif_pos ⟨hj, q.isLt⟩, dif_pos ⟨hj, q.isLt⟩, in3]

/-- The reference's term: layer norm of the convolution's rows, and the gates. -/
abbrev ref (x : S2x4096x24576.Idx → EReal) (w : S31x2048.Idx → EReal) (b g o : S2048.Idx → EReal) :=
  Cert.Kernel4Ideal.CvPost.ref (conv x w b) x g o

/-- The block the kernel leaves at grid point `t`: its own terms for the norm and the gates, over the block's convolution. -/
abbrev G (c : Dev nD) (t : Fin cfg0.N) : S1x256x2048.Idx → Elt Ideal .bf16 :=
  k0_pay1 (k0_pay921 (k0_pay920 (block 96 (padded (iblk m c 0 t) (iblk m c 1 t)) (iblk m c 3 t) (iblk m c 4 t))) (iblk m c 5 t) (iblk m c 6 t))
    (k0_pay922 (iblk m c 2 t)) (k0_pay923 (iblk m c 2 t))

/-- What the kernel's body leaves at grid point `t` is that block. -/
theorem outs (c : Dev nD) (t : Fin cfg0.N) (y : S1x256x2048.Idx) : outsAt0 m c t y = G m c t y := by
  unfold outsAt0 out0_A_7
  refine View.read_writes_apply_of_pieces _ _ (G m c t) _ ?_ y (cover0_A_7 ..)
  unfold kernelRun0_A
  dsimp only
  intro p hp
  simp only [List.mem_cons, List.not_mem_nil, or_false] at hp
  subst hp
  unfold kernelRun0_A.sl.r_764 kernelRun0_A.sl.r_763 kernelRun0_A.sl.v11068 kernelRun0_A.sl.r_765 kernelRun0_A.sl.r_766
  rw [convRead]
  intro (x : S1x256x2048.Idx)
  dsimp only
  rw [load_whole (ms0_2 t) _ (iblk m c 2 t) _ _ (by decide), load_whole (ms0_5 t) _ (iblk m c 5 t) _ _ (by decide),
    load_whole (ms0_6 t) _ (iblk m c 6 t) _ _ (by decide)]
  exact congrArg (G m c t) (emb_whole (s := S1x256x2048) _ _ (by decide) x).symm

set_option maxHeartbeats 2000000 in
/-- At a grid point, an entry of the written block is the reference's entry at the place of the result where it lands. -/
theorem point (c : Dev nD) (t : Fin cfg0.N) (y) :
    outsAt0 m c t y = ref (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 7).blk t).view.emb y) := by
  have ht : t.val < 32 := t.isLt
  change S1x256x2048.Idx at y
  rw [outs]
  idx_vars y
  have h1 := y1.isLt
  rw [out7 t y0 y1 y2 (by omega) (by omega)]
  pointwise [G, k0_pay1, k0_pay920, k0_pay921, k0_pay922, k0_pay923, ref, Cert.Kernel4Ideal.CvPost.ref, Cert.Kernel4Ideal.CvPost.silu,
    Cert.Kernel4Ideal.CvPost.affine, Cert.Kernel4Ideal.CvPost.centred, Cert.Kernel4Ideal.CvPost.rowMean]
  simp only [Sigmoid.eq, block_conv m c t _ _ (show t.val / 16 < 2 by omega) (show 256 * (t.val % 16) + y1.val < 4096 by omega), in5, in6,
    in2 m c t y1 y2 (show t.val / 16 < 2 by omega) (show 256 * (t.val % 16) + y1.val < 4096 by omega) (by omega)]

/-- The result is the reference's term of the arguments. -/
theorem final (c : Dev nD) : (dats m 0 c).arrAt 7 cfg0.N = ref (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  exact point m c t y

end Cert.Kernel12Ideal.ConvRow

namespace Cert.Proof.ConvRow

/-- The kernel and the reference end with the same result. -/
theorem algebraic : Cert.algebraic_Kernel12Ideal_Reference12Ideal := by
  intro m ρ m' ρ' _ hagree
  refine ⟨fun c => Cert.Kernel12Ideal.ConvRow.ref (m (c.tc.loc Cert.Kernel12Ideal.main_arg0)) (m (c.tc.loc Cert.Kernel12Ideal.main_arg1)) (m (c.tc.loc Cert.Kernel12Ideal.main_arg2)) (m (c.tc.loc Cert.Kernel12Ideal.main_arg3)) (m (c.tc.loc Cert.Kernel12Ideal.main_arg4)), ?_, ?_⟩
  · exact (θ_run Cert.Kernel12Ideal.defs _ _).mono
      (fun _ h c => ⟨(h c).1.trans (Cert.Kernel12Ideal.ConvRow.final m c), (h c).2⟩)
      (Cert.Kernel12Ideal.Value.run_blocks m ρ)
  · refine (θ_run Cert.Reference12Ideal.defs _ _).mono (fun _ h c => ⟨(h c).1.trans ?_, (h c).2⟩)
      (Cert.Reference12Ideal.Value.run (F := Ideal) m' ρ')
    rw [Cert.Reference12Ideal.Value.res_main_v253, Cert.Reference12Ideal.Value.res_main_v237, Cert.Reference12Ideal.Value.res_main_v231,
      Cert.ConvRow.reference]
    show Cert.Kernel12Ideal.ConvRow.ref (m' (c.tc.loc Cert.Reference12Ideal.main_arg0)) (m' (c.tc.loc Cert.Reference12Ideal.main_arg1)) (m' (c.tc.loc Cert.Reference12Ideal.main_arg2)) (m' (c.tc.loc Cert.Reference12Ideal.main_arg3)) (m' (c.tc.loc Cert.Reference12Ideal.main_arg4)) = _
    rw [(hagree c).1, (hagree c).2.1, (hagree c).2.2.1, (hagree c).2.2.2.1, (hagree c).2.2.2.2]

end Cert.Proof.ConvRow

end
-- ==== Proof.ConvWholeRef.lean ====
/-
  The convolution along a request's 256 tokens, as the reference takes it: an entry of the padded lines, the 31 taps with the bias, and the layer
  norm and the gates after them.
-/
module

public import proofs.«01_k».proof.Defs
public import proofs.«01_k».proof.Proof.Gen.Reference13Ideal.Run
public import proofs.«01_k».proof.Proof.ConvColRef
public import proofs.«01_k».proof.Proof.Sigmoid
public import Idealize.ShloMosaic.Lib.Pipeline.ValueKit

@[expose] public section

set_option maxRecDepth 16384

noncomputable section

open Idealize.ShloMosaic Idealize.ShloMosaic.TcCoe Idealize.SL.Sem

namespace Cert.ConvWhole

open Cert.Reference13Ideal Cert.Reference13Ideal.Gen Cert.Reference13Ideal.Value
open Cert.ConvCol (at2)

/-- An entry of a padded line, 15 zeros on either side of its 256 tokens: the first projection times the sigmoid of the second. -/
def line (x : S16x256x24576.Idx → EReal) (a : Fin 16) (q : Fin 2048) (h : ℕ) : EReal :=
  if p : 15 ≤ h ∧ h - 15 < 256 then
    x (ix3 a ⟨h - 15, p.2⟩ ⟨10240 + q.val, by omega⟩) * Ideal.div 1 (1 + Ideal.exp (-x (ix3 a ⟨h - 15, p.2⟩ ⟨12288 + q.val, by omega⟩)))
  else 0

/-- The convolution along the lines: 31 taps per channel, and the channel's bias. -/
def conv (x : S16x256x24576.Idx → EReal) (w : S31x2048.Idx → EReal) (b : S2048.Idx → EReal) : S16x256x2048.Idx → EReal := fun i =>
  ∑ j ∈ Finset.range 31, line x (i 0) (i 2) (j + (i 1).val) * at2 w j (i 2).val + b (ix1 (i 2))

/-- A number times its own sigmoid. -/
def silu (x : EReal) : EReal := x * Ideal.div 1 (1 + Ideal.exp (-x))

/-- The mean of a row. -/
def mean (y : Fin 2048 → EReal) : EReal := Ideal.div (∑ k : Fin 2048, y k) (FloatOps.ofBits (F := Ideal) .f32 0x45000000#32)

/-- An entry of a row's layer norm, with its gain and its offset. -/
def norm (y : Fin 2048 → EReal) (g o : EReal) (q : Fin 2048) : EReal :=
  (y q - mean y) * Ideal.rsqrt (mean (fun k => (y k - mean y) * (y k - mean y)) + FloatOps.ofBits (F := Ideal) .f32 0x358637BD#32) * g + o

/-- The reference's result: layer norm of the convolution's rows, and the gates. -/
def ref (x : S16x256x24576.Idx → EReal) (w : S31x2048.Idx → EReal) (b g o : S2048.Idx → EReal) : S16x256x2048.Idx → EReal := fun i =>
  silu (norm (fun k => conv x w b (ix3 (i 0) (i 1) k)) (g (ix1 (i 2))) (o (ix1 (i 2))) (i 2))
    * silu (x (ix3 (i 0) (i 1) ⟨14336 + (i 2).val, by have : (i 2).val < 2048 := (i 2).isLt; omega⟩))

/-- The reference's padded lines. -/
theorem padded_ref (L : Valuation τ sig (Elt Ideal)) (a : Fin 16) (h : Fin 286) (q : Fin 2048) :
    res_main_v9 (F := Ideal) L (ix3 a h q) = line (L (Proc.devRef .tc main_arg0)) a q h.val := by
  pointwise [res_main_v9]
  unfold line
  by_cases p : 15 ≤ h.val ∧ h.val - 15 < 256
  · rw [dif_pos p, dif_pos p]
  · rw [dif_neg p, dif_neg p]
    simp [FloatOps.sitofp]

set_option maxHeartbeats 2000000 in
/-- The reference's convolution is that one, -/
theorem conv_ref (L : Valuation τ sig (Elt Ideal)) : res_main_v228 L
      = conv (L (Proc.devRef .tc main_arg0)) (L (Proc.devRef .tc main_arg1)) (L (Proc.devRef .tc main_arg2)) := by
  funext i
  change S16x256x2048.Idx at i
  idx_vars i
  have hc : ∀ i0 i1 i2, conv (L (Proc.devRef .tc main_arg0)) (L (Proc.devRef .tc main_arg1)) (L (Proc.devRef .tc main_arg2)) (ix3 i0 i1 i2)
      = ∑ j ∈ Finset.range 31, line (L (Proc.devRef .tc main_arg0)) i0 i2 (j + i1.val)
          * at2 (L (Proc.devRef .tc main_arg1)) j i2.val + L (Proc.devRef .tc main_arg2) (ix1 i2) := fun _ _ _ => rfl
  pointwise [res_main_v228, res_main_v162, res_main_v85]
  simp only [padded_ref, hc, Finset.sum_range_succ, Finset.sum_range_zero, zero_add]
  have hq : i2.val < 2048 := i2.isLt
  simp only [at2, hq, Nat.reduceLT, and_self, dite_true]
  rfl

set_option maxHeartbeats 2000000 in
/-- and so is the layer norm of its rows. -/
theorem norm_ref (L : Valuation τ sig (Elt Ideal)) (i0 : Fin 16) (i1 : Fin 256) (i2 : Fin 2048) : res_main_v251 L (ix3 i0 i1 i2)
      = norm (fun k => conv (L (Proc.devRef .tc main_arg0)) (L (Proc.devRef .tc main_arg1)) (L (Proc.devRef .tc main_arg2)) (ix3 i0 i1 k))
          (L (Proc.devRef .tc main_arg3) (ix1 i2)) (L (Proc.devRef .tc main_arg4) (ix1 i2)) i2 := by
  rw [res_main_v251, res_main_v235, conv_ref]
  pointwise []
  rfl

/-- The reference's own term for an array times its own sigmoid. -/
abbrev gate (x : FVec Ideal S16x256x2048 .f32) : FVec Ideal S16x256x2048 .f32 :=
  mulf x (Host.divf (broadcastInDim S16x256x2048 ![] bcast_S_S16x256x2048 (constant S_ .f32 0x3F800000#32))
    (addf (broadcastInDim S16x256x2048 ![] bcast_S_S16x256x2048 (constant S_ .f32 0x3F800000#32)) (Host.exp (Host.negf x))))

set_option maxHeartbeats 2000000 in
/-- So the reference's result is the one above. -/
theorem reference (L : Valuation τ sig (Elt Ideal)) : truncf .bf16 (mulf (gate (res_main_v251 L)) (gate (res_main_v229 L))) bitsLt_bf16_f32
      = ref (L (Proc.devRef .tc main_arg0)) (L (Proc.devRef .tc main_arg1)) (L (Proc.devRef .tc main_arg2)) (L (Proc.devRef .tc main_arg3))
          (L (Proc.devRef .tc main_arg4)) := by
  funext i
  change S16x256x2048.Idx at i
  idx_vars i
  pointwise [gate, res_main_v229]
  simp only [Sigmoid.eq, norm_ref]
  rfl

end Cert.ConvWhole

end
-- ==== Proof.ConvWhole.lean ====
/-
  The convolution along the rows of a stream taken whole, 256 tokens to a request, with the layer norm and the gates after it
  (`_conv_seq`).
-/
module

public import proofs.«01_k».proof.Defs
public import proofs.«01_k».proof.Proof.Gen.Kernel13Ideal.Value
public import proofs.«01_k».proof.Proof.Gen.Reference13Ideal.Run
public import proofs.«01_k».proof.Proof.Sigmoid
public import proofs.«01_k».proof.Proof.ConvTile
public import proofs.«01_k».proof.Proof.ConvWholeRef
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Kernel13Ideal.ConvWhole

open Cert.Kernel13Ideal Cert.Kernel13Ideal.Gen Cert.ConvTile Cert.ConvWhole
open Cert.ConvCol (at2)

variable (m : (ℓ : Loc nD τ sig) → Buf (Elt Ideal) ℓ)

/-- A request's 256 tokens between two margins of 16 rows of zeros. -/
def padded (x0 x1 : S1x256x2048.Idx → EReal) : S288x2048.Idx → EReal := fun y =>
  if h : 16 ≤ (y 0).val ∧ (y 0).val < 272 then glu x0 x1 ⟨(y 0).val - 16, by omega⟩ (y 1) else 0

/-- On the margins it is zero, -/
theorem padded_margin (x0 x1 : S1x256x2048.Idx → EReal) (o : ℕ) (inb : ∀ a, (![o, 0] : Fin 2 → ℕ) a + S16x2048.size a ≤ S288x2048.size a)
    (ho : o = 0 ∨ o = 272) (i : Fin 16) (q : Fin 2048) :
    padded x0 x1 ((Rect.unit (s := S288x2048) ![o, 0] S16x2048.size inb).emb (ix2 i q)) = 0 := by
  have e : (((Rect.unit (s := S288x2048) ![o, 0] S16x2048.size inb).emb (ix2 i q)) 0).val = o + 1 * i.val := rfl
  have := i.isLt
  rw [padded, dif_neg (by rw [e]; omega)]

/-- between them the tokens' rows. -/
theorem padded_tokens (x0 x1 : S1x256x2048.Idx → EReal) (inb : ∀ a, (![16, 0] : Fin 2 → ℕ) a + S256x2048.size a ≤ S288x2048.size a)
    (i : Fin 256) (q : Fin 2048) :
    padded x0 x1 ((Rect.unit (s := S288x2048) ![16, 0] S256x2048.size inb).emb (ix2 i q)) = glu x0 x1 i q := by
  have e : (((Rect.unit (s := S288x2048) ![16, 0] S256x2048.size inb).emb (ix2 i q)) 0).val = 16 + 1 * i.val := rfl
  have := i.isLt
  rw [padded, dif_pos (by rw [e]; omega)]
  refine congrArg₂ (glu x0 x1) (Fin.ext ?_) (Fin.ext (Nat.zero_add _ |>.trans (Nat.one_mul _)))
  show _ - 16 = i.val
  rw [e]
  omega

/-- The kernel's own term for it. -/
theorem glu_apply (arg2 : Memref sig .tc .vmem S1x256x2048 .f32) (harg2 : arg2.IsWhole) (arg3 : Memref sig .tc .vmem S1x256x2048 .f32) (harg3 : arg3.IsWhole)
    (x0 x1 : Vec Ideal S1x256x2048 .f32) (r : Fin 256) (q : Fin 2048) :
    k0_pay3 (arg2.view.readAt (Elt Ideal) (Rect.unit ![0, 0, 0] S1x256x2048.size inb_S1x256x2048_S1x256x2048_0_0_0).toLoadRect (harg2.unread x0))
        (arg3.view.readAt (Elt Ideal) (Rect.unit ![0, 0, 0] S1x256x2048.size inb_S1x256x2048_S1x256x2048_0_0_0).toLoadRect (harg3.unread x1)) (ix2 r q)
      = glu x0 x1 r q := by
  rw [load_whole arg2 harg2 x0 _ _ (by decide), load_whole arg3 harg3 x1 _ _ (by decide)]
  pointwise [k0_pay3]
  simp only [Sigmoid.eq]
  rfl

section

variable (c : Dev nD) (arg2 : Memref sig .tc .vmem S1x256x2048 .f32) (harg2 : arg2.IsWhole) (arg3 : Memref sig .tc .vmem S1x256x2048 .f32) (harg3 : arg3.IsWhole)
  (arg5 : Memref sig .tc .vmem S31x2048 .f32) (harg5 : arg5.IsWhole) (arg6 : Memref sig .tc .vmem S1x2048 .f32) (harg6 : arg6.IsWhole)
  (arg10 : Memref sig .tc .vmem S288x2048 .f32) (x0 x1 : Vec Ideal S1x256x2048 .f32) (x3 : Vec Ideal S31x2048 .f32) (x4 : Vec Ideal S1x2048 .f32)

set_option maxHeartbeats 2000000 in
/-- Every piece the body stores in the first scratch buffer is a piece of the padded rows, -/
theorem padPieces : ∀ p ∈ kernelRun0_A.sl.HS0_3 (F := Ideal) c arg2 harg2 arg3 harg3 x0 x1, ∀ x : p.1.shape.Idx,
    p.2 x = padded x0 x1 (p.1.emb x) := by
  unfold kernelRun0_A.sl.HS0_3
  sl_unfold_run_names
  intro p hp
  simp only [List.mem_cons, List.not_mem_nil, or_false] at hp
  rcases hp with rfl | rfl | rfl
  all_goals first
    | intro (x : S16x2048.Idx)
      idx_vars x
      rw [padded_margin _ _ _ _ (by decide)]
      pointwise [k0_pay2, k0_pay4]
    | intro (x : S256x2048.Idx)
      idx_vars x
      rw [padded_tokens]
      exact glu_apply arg2 harg2 arg3 harg3 _ _ _ _

/-- and they cover the buffer. -/
theorem padCover (y : S288x2048.Idx) : ∃ p ∈ kernelRun0_A.sl.HS0_3 (F := Ideal) c arg2 harg2 arg3 harg3 x0 x1, y ∈ p.1.set := by
  sl_unfold_run_names
  idx_vars y
  have hy := y0.isLt
  simp only [List.mem_cons, List.not_mem_nil, or_false, exists_eq_or_imp, exists_eq_left, Rect.mem_set_unit, Fin.forall_fin_two]
  simp
  omega

/-- What the body stores in the scratch buffer of the convolution are the tiles, each over 96 of the padded rows. -/
theorem stores : kernelRun0_A.sl.HS1_64 c arg2 harg2 arg3 harg3 arg5 harg5 arg6 harg6 arg10 x0 x1 x3 x4
      = pieces (N := 288) (d := 64) (by decide) (kernelRun0_A.sl.HS0_3 c arg2 harg2 arg3 harg3 x0 x1) arg5 harg5 arg6 harg6 arg10 x3 x4 := by
  rfl

/-- So what the body reads back is the convolution. -/
theorem convRead (arg11 : Memref sig .tc .vmem S256x2048 .f32) :
    arg11.view.readCov (kernelRun0_A.sl.HS1_64 c arg2 harg2 arg3 harg3 arg5 harg5 arg6 harg6 arg10 x0 x1 x3 x4)
      (Rect.unit ![0, 0] S256x2048.size inb_S256x2048_S256x2048_0_0).toLoadRect = block 64 (padded x0 x1) x3 x4 := by
  rw [stores]
  exact pieces_read _ _ _ _ _ _ _ _ _ _ (padPieces c arg2 harg2 arg3 harg3 x0 x1) (padCover c arg2 harg2 arg3 harg3 x0 x1) _ _

end

/-- Each window's block index at grid point `t`. -/
theorem idx : ∀ t : Fin cfg0.N, win0_0.index t = ![t.val, 0, 5] ∧ win0_1.index t = ![t.val, 0, 6]
    ∧ win0_2.index t = ![t.val, 0, 7] ∧ win0_3.index t = ![0, 0] ∧ win0_4.index t = ![0, 0] ∧ win0_5.index t = ![0, 0]
    ∧ win0_6.index t = ![0, 0] ∧ win0_7.index t = ![t.val, 0, 0] :=
  (by decide +kernel : ∀ t : Fin grid0.N, _)

/-- An entry of the first projection's block, -/
theorem in0 (c : Dev nD) (t : Fin cfg0.N) (r : Fin 256) (q : Fin 2048) (h h'') :
    iblk m c 0 t (ix3 0 r q) = m ((c : Thread nD τ).loc main_arg0) (ix3 ⟨t.val, h⟩ r ⟨10240 + q.val, h''⟩) := by
  blk_point [iblk, V, idx t]

/-- of the second's, -/
theorem in1 (c : Dev nD) (t : Fin cfg0.N) (r : Fin 256) (q : Fin 2048) (h h'') :
    iblk m c 1 t (ix3 0 r q) = m ((c : Thread nD τ).loc main_arg0) (ix3 ⟨t.val, h⟩ r ⟨12288 + q.val, h''⟩) := by
  blk_point [iblk, V, idx t]

/-- of the gate's, -/
theorem in2 (c : Dev nD) (t : Fin cfg0.N) (r : Fin 256) (q : Fin 2048) (h h'') :
    iblk m c 2 t (ix3 0 r q) = m ((c : Thread nD τ).loc main_arg0) (ix3 ⟨t.val, h⟩ r ⟨14336 + q.val, h''⟩) := by
  blk_point [iblk, V, idx t]

/-- of the taps', -/
theorem in3 (c : Dev nD) (t : Fin cfg0.N) (r : Fin 31) (q : Fin 2048) :
    iblk m c 3 t (ix2 r q) = m ((c : Thread nD τ).loc main_arg1) (ix2 r q) := by
  blk_point [iblk, V, idx t]

/-- of the biases', -/
theorem in4 (c : Dev nD) (t : Fin cfg0.N) (q : Fin 2048) :
    iblk m c 4 t (ix2 0 q) = m ((c : Thread nD τ).loc main_arg2) (ix1 q) := by
  blk_point [iblk, V, idx t]

/-- of the gains' -/
theorem in5 (c : Dev nD) (t : Fin cfg0.N) (q : Fin 2048) :
    iblk m c 5 t (ix2 0 q) = m ((c : Thread nD τ).loc main_arg3) (ix1 q) := by
  blk_point [iblk, V, idx t]

/-- and of the offsets'. -/
theorem in6 (c : Dev nD) (t : Fin cfg0.N) (q : Fin 2048) :
    iblk m c 6 t (ix2 0 q) = m ((c : Thread nD τ).loc main_arg4) (ix1 q) := by
  blk_point [iblk, V, idx t]

/-- The place of the result where a block's entry lands. -/
theorem out7 (t : Fin cfg0.N) (y0 : Fin 1) (y1 : Fin 256) (y2 : Fin 2048) (h) :
    ((cfg0.win 7).blk t).view.emb (ix3 y0 y1 y2) = ix3 ⟨t.val, h⟩ y1 y2 := by
  blk_ext!
  all_goals rw [(idx t).2.2.2.2.2.2.2]; simp; try omega

/-- The rows a tap reads of the padded rows are entries of a padded line. -/
theorem tap (c : Dev nD) (t : Fin cfg0.N) (r : Fin 256) (j : ℕ) (hj : j < 31) (q : Fin 2048) (h) :
    at2 (padded (iblk m c 0 t) (iblk m c 1 t)) (64 * (r.val / 64) + r.val % 64 + j + 1) q.val
      = line (m ((c : Thread nD τ).loc main_arg0)) ⟨t.val, h⟩ q (j + r.val) := by
  have hr := r.isLt
  have e : 64 * (r.val / 64) + r.val % 64 + j + 1 = r.val + j + 1 := by omega
  rw [e, at2, dif_pos ⟨by omega, q.isLt⟩]
  unfold padded line
  have e0 : ((ix2 (⟨r.val + j + 1, by omega⟩ : Fin 288) (⟨q.val, q.isLt⟩ : Fin 2048) : S288x2048.Idx) 0).val = r.val + j + 1 := rfl
  by_cases p : 15 ≤ j + r.val ∧ j + r.val - 15 < 256
  · rw [dif_pos (by rw [e0]; omega), dif_pos p]
    unfold glu
    have e1 : r.val + j + 1 - 16 < 256 := by omega
    refine congrArg₂ (fun a b : EReal => a * Ideal.div 1 (1 + Ideal.exp (-b))) ?_ ?_
    · refine (in0 m c t ⟨_, e1⟩ q h (by omega)).trans (congrArg (fun n => m ((c : Thread nD τ).loc main_arg0) (ix3 _ n _)) (Fin.ext ?_))
      show r.val + j + 1 - 16 = j + r.val - 15
      omega
    · refine (in1 m c t ⟨_, e1⟩ q h (by omega)).trans (congrArg (fun n => m ((c : Thread nD τ).loc main_arg0) (ix3 _ n _)) (Fin.ext ?_))
      show r.val + j + 1 - 16 = j + r.val - 15
      omega
  · rw [dif_neg (by rw [e0]; omega), dif_neg p]

/-- A block's convolution is the convolution's block. -/
theorem block_conv (c : Dev nD) (t : Fin cfg0.N) (r : Fin 256) (q : Fin 2048) (h) :
    block 64 (padded (iblk m c 0 t) (iblk m c 1 t)) (iblk m c 3 t) (iblk m c 4 t) (ix2 r q)
      = conv (m ((c : Thread nD τ).loc main_arg0)) (m ((c : Thread nD τ).loc main_arg1)) (m ((c : Thread nD τ).loc main_arg2))
          (ix3 ⟨t.val, h⟩ r q) := by
  show (show EReal from iblk m c 4 t (ix2 0 q)) + ∑ j ∈ Finset.range 31, at2 (padded (iblk m c 0 t) (iblk m c 1 t)) (64 * (r.val / 64) + r.val % 64 + j + 1) q.val
      * at2 (iblk m c 3 t) j q.val
    = ∑ j ∈ Finset.range 31, line (m ((c : Thread nD τ).loc main_arg0)) ⟨t.val, h⟩ q (j + r.val) * at2 (m ((c : Thread nD τ).loc main_arg1)) j q.val
      + m ((c : Thread nD τ).loc main_arg2) (ix1 q)
  rw [add_comm]
  refine congrArg₂ (fun a b : EReal => a + b) (Finset.sum_congr rfl fun j hj => ?_) (in4 m c t q)
  have hj := Finset.mem_range.1 hj
  rw [tap m c t r j hj q h, at2, at2, dif_pos ⟨hj, q.isLt⟩, dif_pos ⟨hj, q.isLt⟩, in3]

/-- The block the kernel leaves at grid point `t`: its own terms for the norm and the gates, over the block's convolution. -/
abbrev G (c : Dev nD) (t : Fin cfg0.N) : S1x256x2048.Idx → Elt Ideal .bf16 :=
  k0_pay1 (k0_pay912 (k0_pay910 (block 64 (padded (iblk m c 0 t) (iblk m c 1 t)) (iblk m c 3 t) (iblk m c 4 t)) (iblk m c 5 t)) (k0_pay911 (iblk m c 6 t)) (iblk m c 2 t))

/-- What the kernel's body leaves at grid point `t` is that block. -/
theorem outs (c : Dev nD) (t : Fin cfg0.N) (y : S1x256x2048.Idx) : outsAt0 m c t y = G m c t y := by
  unfold outsAt0 out0_A_7
  refine View.read_writes_apply_of_pieces _ _ (G m c t) _ ?_ y (cover0_A_7 ..)
  unfold kernelRun0_A
  dsimp only
  intro p hp
  simp only [List.mem_cons, List.not_mem_nil, or_false] at hp
  subst hp
  unfold kernelRun0_A.sl.r_767 kernelRun0_A.sl.r_766 kernelRun0_A.sl.r_765 kernelRun0_A.sl.v11031
  rw [convRead]
  intro (x : S1x256x2048.Idx)
  dsimp only
  rw [load_whole (ms0_2 t) _ (iblk m c 2 t) _ _ (by decide), load_whole (ms0_5 t) _ (iblk m c 5 t) _ _ (by decide),
    load_whole (ms0_6 t) _ (iblk m c 6 t) _ _ (by decide)]
  exact congrArg (G m c t) (emb_whole (s := S1x256x2048) _ _ (by decide) x).symm

set_option maxHeartbeats 2000000 in
/-- At a grid point, an entry of the written block is the reference's entry at the place of the result where it lands. -/
theorem point (c : Dev nD) (t : Fin cfg0.N) (y) :
    outsAt0 m c t y = ref (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 7).blk t).view.emb y) := by
  have ht : t.val < 16 := t.isLt
  change S1x256x2048.Idx at y
  rw [outs]
  idx_vars y
  have h1 := y1.isLt
  rw [out7 t y0 y1 y2 ht]
  pointwise [G, k0_pay1, k0_pay910, k0_pay911, k0_pay912]
  simp only [Sigmoid.eq, block_conv m c t _ _ ht, in5, in6, in2 m c t y1 y2 ht (by omega)]
  rfl

/-- The result is the reference's term of the arguments. -/
theorem final (c : Dev nD) : (dats m 0 c).arrAt 7 cfg0.N = ref (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  exact point m c t y

end Cert.Kernel13Ideal.ConvWhole

namespace Cert.Proof.ConvWhole

/-- The kernel and the reference end with the same result. -/
theorem algebraic : Cert.algebraic_Kernel13Ideal_Reference13Ideal := by
  intro m ρ m' ρ' _ hagree
  refine ⟨fun c => Cert.ConvWhole.ref (m (c.tc.loc Cert.Kernel13Ideal.main_arg0)) (m (c.tc.loc Cert.Kernel13Ideal.main_arg1)) (m (c.tc.loc Cert.Kernel13Ideal.main_arg2)) (m (c.tc.loc Cert.Kernel13Ideal.main_arg3)) (m (c.tc.loc Cert.Kernel13Ideal.main_arg4)), ?_, ?_⟩
  · exact (θ_run Cert.Kernel13Ideal.defs _ _).mono
      (fun _ h c => ⟨(h c).1.trans (Cert.Kernel13Ideal.ConvWhole.final m c), (h c).2⟩)
      (Cert.Kernel13Ideal.Value.run_blocks m ρ)
  · refine (θ_run Cert.Reference13Ideal.defs _ _).mono (fun _ h c => ⟨(h c).1.trans ?_, (h c).2⟩)
      (Cert.Reference13Ideal.Value.run (F := Ideal) m' ρ')
    rw [Cert.ConvWhole.reference]
    show Cert.ConvWhole.ref (m' (c.tc.loc Cert.Reference13Ideal.main_arg0)) (m' (c.tc.loc Cert.Reference13Ideal.main_arg1)) (m' (c.tc.loc Cert.Reference13Ideal.main_arg2)) (m' (c.tc.loc Cert.Reference13Ideal.main_arg3)) (m' (c.tc.loc Cert.Reference13Ideal.main_arg4)) = _
    rw [(hagree c).1, (hagree c).2.1, (hagree c).2.2.1, (hagree c).2.2.2.1, (hagree c).2.2.2.2]

end Cert.Proof.ConvWhole

end
-- ==== Proof.InProjLast.lean ====
/-
  The input projection where no next layer's weights are cast (`_in_proj`, last layer): its result is the reference's product. The
  block (i, j) is the product of 1024 rows of `h` with 1024 columns of the weight, its whole contraction inside one grid point.
-/
module

public import proofs.«01_k».proof.Defs
public import proofs.«01_k».proof.Proof.Gen.Kernel14Ideal.Value
public import proofs.«01_k».proof.Proof.Gen.Reference14Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel14Ideal.InProjLast

open Cert.Kernel14Ideal Cert.Kernel14Ideal.Gen

variable (m : (ℓ : Loc nD τ sig) → Buf (Elt Ideal) ℓ)

/-- The reference's product, over the two arguments. -/
abbrev prod (h : FVec Ideal Reference14Ideal.S8192x4096 .bf16) (w : FVec Ideal Reference14Ideal.S1x4096x24576 .bf16) :
    FVec Ideal Reference14Ideal.S8192x24576 .f32 :=
  Host.dotGeneral Reference14Ideal.dot_S8192x4096_S4096x24576_S8192x24576_1_0_0_1_n_n none
    (extf .f32 h Reference14Ideal.Gen.bitsLt_bf16_f32)
    (extf .f32 (shapeCast _ w Reference14Ideal.Gen.shapeCasts_S1x4096x24576_S4096x24576) Reference14Ideal.Gen.bitsLt_bf16_f32)

/-- Each window's block index at grid point `t`, the second grid axis running fastest (24 points). -/
theorem idx : ∀ t : Fin cfg0.N, win0_0.index t = ![t.val / 24, 0] ∧ win0_1.index t = ![0, 0, t.val % 24]
    ∧ win0_2.index t = ![t.val / 24, t.val % 24] :=
  (by decide +kernel : ∀ t : Fin grid0.N, _)

/-- A point's block, at a block index, is the reference's product at the array index under it. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- After the run the result's array is the reference's product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel14Ideal.InProjLast

namespace Cert.Proof.InProjLast

/-- The kernel and the reference end with the same result. -/
theorem algebraic : Cert.algebraic_Kernel14Ideal_Reference14Ideal := by
  intro m ρ m' ρ' _ hagree
  refine ⟨fun c => Cert.Kernel14Ideal.InProjLast.prod (m (c.tc.loc Cert.Kernel14Ideal.main_arg0)) (m (c.tc.loc Cert.Kernel14Ideal.main_arg1)), ?_, ?_⟩
  · exact (θ_run Cert.Kernel14Ideal.defs _ _).mono
      (fun _ h c => ⟨(h c).1.trans (Cert.Kernel14Ideal.InProjLast.final m c), (h c).2⟩)
      (Cert.Kernel14Ideal.Value.run_blocks m ρ)
  · refine (θ_run Cert.Reference14Ideal.defs _ _).mono (fun _ h c => ⟨(h c).1.trans ?_, (h c).2⟩)
      (Cert.Reference14Ideal.Value.run (F := Ideal) m' ρ')
    rw [(hagree c).1, (hagree c).2]

end Cert.Proof.InProjLast

end
-- ==== Proof.lean ====
/-
  The proof of the claim. For each program: the frame claims (it ends, touches nothing but its results, leaves every counter at
  zero) are the generated frame theorems, for the references read off their run; the idealized kernels are the kernels themselves
  but for the one named constant of `LowerBounds`; the value claims are proved in the modules imported below, one a call.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.InProj
public import proofs.«01_k».proof.Proof.MergeProj
public import proofs.«01_k».proof.Proof.OutProj
public import proofs.«01_k».proof.Proof.CvPost
public import proofs.«01_k».proof.Proof.ConvCol
public import proofs.«01_k».proof.Proof.HgPost
public import proofs.«01_k».proof.Proof.Prenorm
public import proofs.«01_k».proof.Proof.Modulation
public import proofs.«01_k».proof.Proof.FinalNorm
public import proofs.«01_k».proof.Proof.FinalNormPair
public import proofs.«01_k».proof.Proof.LowerBounds
public import proofs.«01_k».proof.Proof.ConvRow
public import proofs.«01_k».proof.Proof.ConvWhole
public import proofs.«01_k».proof.Proof.InProjLast

@[expose] public section

set_option maxRecDepth 16384

noncomputable section

open Idealize.ShloMosaic Idealize.SL.Sem

namespace Cert.Proof

/-- The reference of `InProj` ends with its arguments as they were and every counter at zero. -/
theorem quiet1 : Cert.quiescent_ReferenceIdeal := fun m ρ _ =>
  (θ_run Cert.ReferenceIdeal.defs _ _).mono
    (fun r h => ⟨fun c => ⟨(h c).2.2.1, (h c).2.2.2⟩, sem_eq_zero_of_no_sems (by decide) r.2⟩)
    (Cert.ReferenceIdeal.Value.run (F := Ideal) m ρ)

/-- The reference of `MergeProj` ends with its arguments as they were and every counter at zero. -/
theorem quiet2 : Cert.quiescent_Reference2Ideal := fun m ρ _ =>
  (θ_run Cert.Reference2Ideal.defs _ _).mono
    (fun r h => ⟨fun c => ⟨(h c).2.1, (h c).2.2.1, (h c).2.2.2.1, (h c).2.2.2.2.1, (h c).2.2.2.2.2⟩, sem_eq_zero_of_no_sems (by decide) r.2⟩)
    (Cert.Reference2Ideal.Value.run (F := Ideal) m ρ)

/-- The reference of `OutProj` ends with its arguments as they were and every counter at zero. -/
theorem quiet3 : Cert.quiescent_Reference3Ideal := fun m ρ _ =>
  (θ_run Cert.Reference3Ideal.defs _ _).mono
    (fun r h => ⟨fun c => ⟨(h c).2.1, (h c).2.2.1, (h c).2.2.2.1, (h c).2.2.2.2⟩, sem_eq_zero_of_no_sems (by decide) r.2⟩)
    (Cert.Reference3Ideal.Value.run (F := Ideal) m ρ)

/-- The reference of `CvPost` ends with its arguments as they were and every counter at zero. -/
theorem quiet4 : Cert.quiescent_Reference4Ideal := fun m ρ _ =>
  (θ_run Cert.Reference4Ideal.defs _ _).mono
    (fun r h => ⟨fun c => ⟨(h c).2.1, (h c).2.2.1, (h c).2.2.2.1, (h c).2.2.2.2⟩, sem_eq_zero_of_no_sems (by decide) r.2⟩)
    (Cert.Reference4Ideal.Value.run (F := Ideal) m ρ)

/-- The reference of `ConvCol` ends with its arguments as they were and every counter at zero. -/
theorem quiet5 : Cert.quiescent_Reference5Ideal := fun m ρ _ =>
  (θ_run Cert.Reference5Ideal.defs _ _).mono
    (fun r h => ⟨fun c => ⟨(h c).2.1, (h c).2.2.1, (h c).2.2.2⟩, sem_eq_zero_of_no_sems (by decide) r.2⟩)
    (Cert.Reference5Ideal.Value.run (F := Ideal) m ρ)

/-- The reference of `HgPost` ends with its arguments as they were and every counter at zero. -/
theorem quiet6 : Cert.quiescent_Reference6Ideal := fun m ρ _ =>
  (θ_run Cert.Reference6Ideal.defs _ _).mono
    (fun r h => ⟨fun c => ⟨(h c).2.1, (h c).2.2.1, (h c).2.2.2.1, (h c).2.2.2.2⟩, sem_eq_zero_of_no_sems (by decide) r.2⟩)
    (Cert.Reference6Ideal.Value.run (F := Ideal) m ρ)

/-- The reference of `Prenorm` ends with its arguments as they were and every counter at zero. -/
theorem quiet7 : Cert.quiescent_Reference7Ideal := fun m ρ _ =>
  (θ_run Cert.Reference7Ideal.defs _ _).mono
    (fun r h => ⟨fun c => ⟨(h c).2.1, (h c).2.2.1, (h c).2.2.2⟩, sem_eq_zero_of_no_sems (by decide) r.2⟩)
    (Cert.Reference7Ideal.Value.run (F := Ideal) m ρ)

/-- The reference of `Modulation` ends with its arguments as they were and every counter at zero. -/
theorem quiet8 : Cert.quiescent_Reference8Ideal := fun m ρ _ =>
  (θ_run Cert.Reference8Ideal.defs _ _).mono
    (fun r h => ⟨fun c => ⟨(h c).2.1, (h c).2.2.1, (h c).2.2.2⟩, sem_eq_zero_of_no_sems (by decide) r.2⟩)
    (Cert.Reference8Ideal.Value.run (F := Ideal) m ρ)

/-- The reference of `FinalNorm` ends with its arguments as they were and every counter at zero. -/
theorem quiet9 : Cert.quiescent_Reference9Ideal := fun m ρ _ =>
  (θ_run Cert.Reference9Ideal.defs _ _).mono
    (fun r h => ⟨fun c => ⟨(h c).2.1, (h c).2.2⟩, sem_eq_zero_of_no_sems (by decide) r.2⟩)
    (Cert.Reference9Ideal.Value.run (F := Ideal) m ρ)

/-- The reference of `FinalNormPair` ends with its arguments as they were and every counter at zero. -/
theorem quiet10 : Cert.quiescent_Reference10Ideal := fun m ρ _ =>
  (θ_run Cert.Reference10Ideal.defs _ _).mono
    (fun r h => ⟨fun c => ⟨(h c).2.1, (h c).2.2.1, (h c).2.2.2⟩, sem_eq_zero_of_no_sems (by decide) r.2⟩)
    (Cert.Reference10Ideal.Value.run (F := Ideal) m ρ)

/-- The reference of `LowerBounds` ends with its arguments as they were and every counter at zero. -/
theorem quiet11 : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

/-- The reference of `ConvRow` ends with its arguments as they were and every counter at zero. -/
theorem quiet12 : Cert.quiescent_Reference12Ideal := fun m ρ _ =>
  (θ_run Cert.Reference12Ideal.defs _ _).mono
    (fun r h => ⟨fun c => ⟨(h c).2.1, (h c).2.2.1, (h c).2.2.2.1, (h c).2.2.2.2.1, (h c).2.2.2.2.2⟩, sem_eq_zero_of_no_sems (by decide) r.2⟩)
    (Cert.Reference12Ideal.Value.run (F := Ideal) m ρ)

/-- The reference of `ConvWhole` ends with its arguments as they were and every counter at zero. -/
theorem quiet13 : Cert.quiescent_Reference13Ideal := fun m ρ _ =>
  (θ_run Cert.Reference13Ideal.defs _ _).mono
    (fun r h => ⟨fun c => ⟨(h c).2.1, (h c).2.2.1, (h c).2.2.2.1, (h c).2.2.2.2.1, (h c).2.2.2.2.2⟩, sem_eq_zero_of_no_sems (by decide) r.2⟩)
    (Cert.Reference13Ideal.Value.run (F := Ideal) m ρ)

/-- The reference of `InProjLast` ends with its arguments as they were and every counter at zero. -/
theorem quiet14 : Cert.quiescent_Reference14Ideal := fun m ρ _ =>
  (θ_run Cert.Reference14Ideal.defs _ _).mono
    (fun r h => ⟨fun c => ⟨(h c).2.1, (h c).2.2⟩, sem_eq_zero_of_no_sems (by decide) r.2⟩)
    (Cert.Reference14Ideal.Value.run (F := Ideal) m ρ)

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts,
    fun m ρ _ => Cert.Kernel.Gen.frame m ρ, fun m ρ _ => Cert.KernelIdeal.Gen.frame m ρ, quiet1,
    fun m ρ _ => Cert.Kernel2.Gen.frame m ρ, fun m ρ _ => Cert.Kernel2Ideal.Gen.frame m ρ, quiet2,
    fun m ρ _ => Cert.Kernel3.Gen.frame m ρ, fun m ρ _ => Cert.Kernel3Ideal.Gen.frame m ρ, quiet3,
    fun m ρ _ => Cert.Kernel4.Gen.frame m ρ, fun m ρ _ => Cert.Kernel4Ideal.Gen.frame m ρ, quiet4,
    fun m ρ _ => Cert.Kernel5.Gen.frame m ρ, fun m ρ _ => Cert.Kernel5Ideal.Gen.frame m ρ, quiet5,
    fun m ρ _ => Cert.Kernel6.Gen.frame m ρ, fun m ρ _ => Cert.Kernel6Ideal.Gen.frame m ρ, quiet6,
    fun m ρ _ => Cert.Kernel7.Gen.frame m ρ, fun m ρ _ => Cert.Kernel7Ideal.Gen.frame m ρ, quiet7,
    fun m ρ _ => Cert.Kernel8.Gen.frame m ρ, fun m ρ _ => Cert.Kernel8Ideal.Gen.frame m ρ, quiet8,
    fun m ρ _ => Cert.Kernel9.Gen.frame m ρ, fun m ρ _ => Cert.Kernel9Ideal.Gen.frame m ρ, quiet9,
    fun m ρ _ => Cert.Kernel10.Gen.frame m ρ, fun m ρ _ => Cert.Kernel10Ideal.Gen.frame m ρ, quiet10,
    fun m ρ _ => Cert.Kernel11.Gen.frame m ρ, fun m ρ _ => Cert.Kernel11Ideal.Gen.frame m ρ, quiet11,
    fun m ρ _ => Cert.Kernel12.Gen.frame m ρ, fun m ρ _ => Cert.Kernel12Ideal.Gen.frame m ρ, quiet12,
    fun m ρ _ => Cert.Kernel13.Gen.frame m ρ, fun m ρ _ => Cert.Kernel13Ideal.Gen.frame m ρ, quiet13,
    fun m ρ _ => Cert.Kernel14.Gen.frame m ρ, fun m ρ _ => Cert.Kernel14Ideal.Gen.frame m ρ, quiet14,
    trivial, Cert.Proof.InProj.algebraic,
    trivial, Cert.Proof.MergeProj.algebraic,
    trivial, Cert.Proof.OutProj.algebraic,
    trivial, Cert.Proof.CvPost.algebraic,
    trivial, Cert.Proof.ConvCol.algebraic,
    trivial, Cert.Proof.HgPost.algebraic,
    trivial, Cert.Proof.Prenorm.algebraic,
    trivial, Cert.Proof.Modulation.algebraic,
    trivial, Cert.Proof.FinalNorm.algebraic,
    trivial, Cert.Proof.FinalNormPair.algebraic,
    IdealRules.named_const.statement Cert.Kernel11Ideal.κ "inv_ln2" .f32 0x3FB8AA3B#32 (((Real.log 2)⁻¹ : ℝ) : EReal) rfl, Cert.Proof.LowerBounds.algebraic,
    trivial, Cert.Proof.ConvRow.algebraic,
    trivial, Cert.Proof.ConvWhole.algebraic,
    trivial, Cert.Proof.InProjLast.algebraic⟩

end Cert.Proof

end
